-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S1024x256 : Shape := ⟨2, ![1024, 256]⟩
abbrev S3x6x128x256 : Shape := ⟨4, ![3, 6, 128, 256]⟩
abbrev S3x256x512 : Shape := ⟨3, ![3, 256, 512]⟩
abbrev S3x512x256 : Shape := ⟨3, ![3, 512, 256]⟩
abbrev S6x6 : Shape := ⟨2, ![6, 6]⟩
abbrev S1x256x512 : Shape := ⟨3, ![1, 256, 512]⟩
abbrev S1x512x256 : Shape := ⟨3, ![1, 512, 256]⟩
abbrev S_ : Shape := ⟨0, ![]⟩
abbrev S128x256 : Shape := ⟨2, ![128, 256]⟩
abbrev S1x1 : Shape := ⟨2, ![1, 1]⟩
abbrev S128x512 : Shape := ⟨2, ![128, 512]⟩
abbrev S1x1x128x256 : Shape := ⟨4, ![1, 1, 128, 256]⟩

abbrev nBuf : Space → Nat
  | .hbm => 8
  | .vmem => 15
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S3x6x128x256, .bf16⟩
  | .local _ .vmem, ⟨12, _⟩ => ⟨S3x6x128x256, .bf16⟩
  | .local _ .vmem, ⟨13, _⟩ => ⟨S3x256x512, .bf16⟩
  | .local _ .vmem, ⟨14, _⟩ => ⟨S3x512x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v34 : BitVec 32 := Scalar.addi v2 c1_i32_27
  let c4_i32_28 : BitVec 32 := 4#32
  let c0_i32 : BitVec 32 := 0#32
  let v35 : BitVec 1 := Scalar.cmpi .eq c4_i32_28 c0_i32
  let c1_i32_29 : BitVec 32 := 1#32
  let v36 : BitVec 32 := Scalar.select v35 c1_i32_29 c4_i32_28
  let v37 : BitVec 32 := Scalar.remsi v34 v36
  let c0_i32_31 : BitVec 32 := 0#32
  let v39 : BitVec 1 := Scalar.cmpi .slt v37 c0_i32_31
  let c0_i32_32 : BitVec 32 := 0#32
  let v40 : BitVec 1 := Scalar.cmpi .slt v36 c0_i32_32
  let v41 : BitVec 1 := Scalar.xori v39 v40
  let c0_i32_30 : BitVec 32 := 0#32
  let v38 : BitVec 1 := Scalar.cmpi .ne v37 c0_i32_30
  let v42 : BitVec 1 := Scalar.andi v41 v38
  let v43 : BitVec 32 := Scalar.addi v37 v36
  let v44 : BitVec 32 := Scalar.select v42 v43 v37
  let c1_i32_34 : BitVec 32 := 1#32
  let v45 : BitVec 32 := Scalar.muli v44 c1_i32_34
  let v46 : BitVec 32 := Scalar.addi c0_i32_35 v45
  v46.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v47 : BitVec 32 := Scalar.addi v2 c2_i32
  let c4_i32_36 : BitVec 32 := 4#32
  let c0_i32_37 : BitVec 32 := 0#32
  let v48 : BitVec 1 := Scalar.cmpi .eq c4_i32_36 c0_i32_37
  let c1_i32_38 : BitVec 32 := 1#32
  let v49 : BitVec 32 := Scalar.select v48 c1_i32_38 c4_i32_36
  let v50 : BitVec 32 := Scalar.remsi v47 v49
  let c0_i32_40 : BitVec 32 := 0#32
  let v52 : BitVec 1 := Scalar.cmpi .slt v50 c0_i32_40
  let c0_i32_41 : BitVec 32 := 0#32
  let v53 : BitVec 1 := Scalar.cmpi .slt v49 c0_i32_41
  let v54 : BitVec 1 := Scalar.xori v52 v53
  let c0_i32_39 : BitVec 32 := 0#32
  let v51 : BitVec 1 := Scalar.cmpi .ne v50 c0_i32_39
  let v55 : BitVec 1 := Scalar.andi v54 v51
  let v56 : BitVec 32 := Scalar.addi v50 v49
  let v57 : BitVec 32 := Scalar.select v55 v56 v50
  let c1_i32_43 : BitVec 32 := 1#32
  let v58 : BitVec 32 := Scalar.muli v57 c1_i32_43
  let v59 : BitVec 32 := Scalar.addi c0_i32_44 v58
  v59.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v60 : BitVec 32 := Scalar.addi v2 c3_i32
  let c4_i32_45 : BitVec 32 := 4#32
  let c0_i32_46 : BitVec 32 := 0#32
  let v61 : BitVec 1 := Scalar.cmpi .eq c4_i32_45 c0_i32_46
  let c1_i32_47 : BitVec 32 := 1#32
  let v62 : BitVec 32 := Scalar.select v61 c1_i32_47 c4_i32_45
  let v63 : BitVec 32 := Scalar.remsi v60 v62
  let c0_i32_49 : BitVec 32 := 0#32
  let v65 : BitVec 1 := Scalar.cmpi .slt v63 c0_i32_49
  let c0_i32_50 : BitVec 32 := 0#32
  let v66 : BitVec 1 := Scalar.cmpi .slt v62 c0_i32_50
  let v67 : BitVec 1 := Scalar.xori v65 v66
  let c0_i32_48 : BitVec 32 := 0#32
  let v64 : BitVec 1 := Scalar.cmpi .ne v63 c0_i32_48
  let v68 : BitVec 1 := Scalar.andi v67 v64
  let v69 : BitVec 32 := Scalar.addi v63 v62
  let v70 : BitVec 32 := Scalar.select v68 v69 v63
  let c1_i32_52 : BitVec 32 := 1#32
  let v71 : BitVec 32 := Scalar.muli v70 c1_i32_52
  let v72 : BitVec 32 := Scalar.addi c0_i32_53 v71
  v72.toNat
def k0_off1 (d0 : Dev nD) (c0_i32_57 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v75 : BitVec 32 := Scalar.muli v2 c256_i32
  let v76 : BitVec 32 := Scalar.addi v75 c0_i32_57
  let v77 : Index := Scalar.indexCast v76
  let c0_58 : Index := 0#32
  ![v77.toNat, 0]
def k0_off2 (d0 : Dev nD) (c0_i32_57 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v75 : BitVec 32 := Scalar.muli v2 c256_i32
  let v76 : BitVec 32 := Scalar.addi v75 c0_i32_57
  let c0_i32_72 : BitVec 32 := 0#32
  ![v76.toNat, 0]
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v81 : BitVec 32 := Scalar.addi v2 c1_i32_59
  let c4_i32_60 : BitVec 32 := 4#32
  let c0_i32_61 : BitVec 32 := 0#32
  let v82 : BitVec 1 := Scalar.cmpi .eq c4_i32_60 c0_i32_61
  let c1_i32_62 : BitVec 32 := 1#32
  let v83 : BitVec 32 := Scalar.select v82 c1_i32_62 c4_i32_60
  let v84 : BitVec 32 := Scalar.remsi v81 v83
  let c0_i32_64 : BitVec 32 := 0#32
  let v86 : BitVec 1 := Scalar.cmpi .slt v84 c0_i32_64
  let c0_i32_65 : BitVec 32 := 0#32
  let v87 : BitVec 1 := Scalar.cmpi .slt v83 c0_i32_65
  let v88 : BitVec 1 := Scalar.xori v86 v87
  let c0_i32_63 : BitVec 32 := 0#32
  let v85 : BitVec 1 := Scalar.cmpi .ne v84 c0_i32_63
  let v89 : BitVec 1 := Scalar.andi v88 v85
  let v90 : BitVec 32 := Scalar.addi v84 v83
  let v91 : BitVec 32 := Scalar.select v89 v90 v84
  let c1_i32_70 : BitVec 32 := 1#32
  let v92 : BitVec 32 := Scalar.muli v91 c1_i32_70
  let v93 : BitVec 32 := Scalar.addi c0_i32_71 v92
  v93.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_74 : BitVec 32 := 2#32
  let v100 : BitVec 32 := Scalar.addi v2 c2_i32_74
  let c4_i32_75 : BitVec 32 := 4#32
  let c0_i32_76 : BitVec 32 := 0#32
  let v101 : BitVec 1 := Scalar.cmpi .eq c4_i32_75 c0_i32_76
  let c1_i32_77 : BitVec 32 := 1#32
  let v102 : BitVec 32 := Scalar.select v101 c1_i32_77 c4_i32_75
  let v103 : BitVec 32 := Scalar.remsi v100 v102
  let c0_i32_79 : BitVec 32 := 0#32
  let v105 : BitVec 1 := Scalar.cmpi .slt v103 c0_i32_79
  let c0_i32_80 : BitVec 32 := 0#32
  let v106 : BitVec 1 := Scalar.cmpi .slt v102 c0_i32_80
  let v107 : BitVec 1 := Scalar.xori v105 v106
  let c0_i32_78 : BitVec 32 := 0#32
  let v104 : BitVec 1 := Scalar.cmpi .ne v103 c0_i32_78
  let v108 : BitVec 1 := Scalar.andi v107 v104
  let v109 : BitVec 32 := Scalar.addi v103 v102
  let v110 : BitVec 32 := Scalar.select v108 v109 v103
  let c1_i32_85 : BitVec 32 := 1#32
  let v111 : BitVec 32 := Scalar.muli v110 c1_i32_85
  let v112 : BitVec 32 := Scalar.addi c0_i32_86 v111
  v112.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_89 : BitVec 32 := 3#32
  let v119 : BitVec 32 := Scalar.addi v2 c3_i32_89
  let c4_i32_90 : BitVec 32 := 4#32
  let c0_i32_91 : BitVec 32 := 0#32
  let v120 : BitVec 1 := Scalar.cmpi .eq c4_i32_90 c0_i32_91
  let c1_i32_92 : BitVec 32 := 1#32
  let v121 : BitVec 32 := Scalar.select v120 c1_i32_92 c4_i32_90
  let v122 : BitVec 32 := Scalar.remsi v119 v121
  let c0_i32_94 : BitVec 32 := 0#32
  let v124 : BitVec 1 := Scalar.cmpi .slt v122 c0_i32_94
  let c0_i32_95 : BitVec 32 := 0#32
  let v125 : BitVec 1 := Scalar.cmpi .slt v121 c0_i32_95
  let v126 : BitVec 1 := Scalar.xori v124 v125
  let c0_i32_93 : BitVec 32 := 0#32
  let v123 : BitVec 1 := Scalar.cmpi .ne v122 c0_i32_93
  let v127 : BitVec 1 := Scalar.andi v126 v123
  let v128 : BitVec 32 := Scalar.addi v122 v121
  let v129 : BitVec 32 := Scalar.select v127 v128 v122
  let c1_i32_100 : BitVec 32 := 1#32
  let v130 : BitVec 32 := Scalar.muli v129 c1_i32_100
  let v131 : BitVec 32 := Scalar.addi c0_i32_101 v130
  v131.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_115 : BitVec 32 := 1#32
  let v155 : BitVec 32 := Scalar.addi v2 c1_i32_115
  let c4_i32_116 : BitVec 32 := 4#32
  let c0_i32_117 : BitVec 32 := 0#32
  let v156 : BitVec 1 := Scalar.cmpi .eq c4_i32_116 c0_i32_117
  let c1_i32_118 : BitVec 32 := 1#32
  let v157 : BitVec 32 := Scalar.select v156 c1_i32_118 c4_i32_116
  let v158 : BitVec 32 := Scalar.remsi v155 v157
  let c0_i32_120 : BitVec 32 := 0#32
  let v160 : BitVec 1 := Scalar.cmpi .slt v158 c0_i32_120
  let c0_i32_121 : BitVec 32 := 0#32
  let v161 : BitVec 1 := Scalar.cmpi .slt v157 c0_i32_121
  let v162 : BitVec 1 := Scalar.xori v160 v161
  let c0_i32_119 : BitVec 32 := 0#32
  let v159 : BitVec 1 := Scalar.cmpi .ne v158 c0_i32_119
  let v163 : BitVec 1 := Scalar.andi v162 v159
  let v164 : BitVec 32 := Scalar.addi v158 v157
  let v165 : BitVec 32 := Scalar.select v163 v164 v158
  let c1_i32_126 : BitVec 32 := 1#32
  let v166 : BitVec 32 := Scalar.muli v165 c1_i32_126
  let v167 : BitVec 32 := Scalar.addi c0_i32_127 v166
  v167.toNat
def k0_dev8 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_130 : BitVec 32 := 2#32
  let v174 : BitVec 32 := Scalar.addi v2 c2_i32_130
  let c4_i32_131 : BitVec 32 := 4#32
  let c0_i32_132 : BitVec 32 := 0#32
  let v175 : BitVec 1 := Scalar.cmpi .eq c4_i32_131 c0_i32_132
  let c1_i32_133 : BitVec 32 := 1#32
  let v176 : BitVec 32 := Scalar.select v175 c1_i32_133 c4_i32_131
  let v177 : BitVec 32 := Scalar.remsi v174 v176
  let c0_i32_135 : BitVec 32 := 0#32
  let v179 : BitVec 1 := Scalar.cmpi .slt v177 c0_i32_135
  let c0_i32_136 : BitVec 32 := 0#32
  let v180 : BitVec 1 := Scalar.cmpi .slt v176 c0_i32_136
  let v181 : BitVec 1 := Scalar.xori v179 v180
  let c0_i32_134 : BitVec 32 := 0#32
  let v178 : BitVec 1 := Scalar.cmpi .ne v177 c0_i32_134
  let v182 : BitVec 1 := Scalar.andi v181 v178
  let v183 : BitVec 32 := Scalar.addi v177 v176
  let v184 : BitVec 32 := Scalar.select v182 v183 v177
  let c1_i32_141 : BitVec 32 := 1#32
  let v185 : BitVec 32 := Scalar.muli v184 c1_i32_141
  let v186 : BitVec 32 := Scalar.addi c0_i32_142 v185
  v186.toNat
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_145 : BitVec 32 := 3#32
  let v193 : BitVec 32 := Scalar.addi v2 c3_i32_145
  let c4_i32_146 : BitVec 32 := 4#32
  let c0_i32_147 : BitVec 32 := 0#32
  let v194 : BitVec 1 := Scalar.cmpi .eq c4_i32_146 c0_i32_147
  let c1_i32_148 : BitVec 32 := 1#32
  let v195 : BitVec 32 := Scalar.select v194 c1_i32_148 c4_i32_146
  let v196 : BitVec 32 := Scalar.remsi v193 v195
  let c0_i32_150 : BitVec 32 := 0#32
  let v198 : BitVec 1 := Scalar.cmpi .slt v196 c0_i32_150
  let c0_i32_151 : BitVec 32 := 0#32
  let v199 : BitVec 1 := Scalar.cmpi .slt v195 c0_i32_151
  let v200 : BitVec 1 := Scalar.xori v198 v199
  let c0_i32_149 : BitVec 32 := 0#32
  let v197 : BitVec 1 := Scalar.cmpi .ne v196 c0_i32_149
  let v201 : BitVec 1 := Scalar.andi v200 v197
  let v202 : BitVec 32 := Scalar.addi v196 v195
  let v203 : BitVec 32 := Scalar.select v201 v202 v196
  let c1_i32_155 : BitVec 32 := 1#32
  let v204 : BitVec 32 := Scalar.muli v203 c1_i32_155
  let v205 : BitVec 32 := Scalar.addi c0_i32_156 v204
  v205.toNat
def k0_off3 (d0 : Dev nD) (c1_i32_176 : BitVec 32) (c0_i32_184 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v227 : BitVec 32 := Scalar.subi v2 c1_i32_176
  let c4_i32_177 : BitVec 32 := 4#32
  let c0_i32_178 : BitVec 32 := 0#32
  let v228 : BitVec 1 := Scalar.cmpi .eq c4_i32_177 c0_i32_178
  let c1_i32_179 : BitVec 32 := 1#32
  let v229 : BitVec 32 := Scalar.select v228 c1_i32_179 c4_i32_177
  let v230 : BitVec 32 := Scalar.remsi v227 v229
  let c0_i32_181 : BitVec 32 := 0#32
  let v232 : BitVec 1 := Scalar.cmpi .slt v230 c0_i32_181
  let c0_i32_182 : BitVec 32 := 0#32
  let v233 : BitVec 1 := Scalar.cmpi .slt v229 c0_i32_182
  let v234 : BitVec 1 := Scalar.xori v232 v233
  let c0_i32_180 : BitVec 32 := 0#32
  let v231 : BitVec 1 := Scalar.cmpi .ne v230 c0_i32_180
  let v235 : BitVec 1 := Scalar.andi v234 v231
  let v236 : BitVec 32 := Scalar.addi v230 v229
  let v237 : BitVec 32 := Scalar.select v235 v236 v230
  let c256_i32_183 : BitVec 32 := 256#32
  let v238 : BitVec 32 := Scalar.muli v237 c256_i32_183
  let v239 : BitVec 32 := Scalar.addi v238 c0_i32_184
  let v240 : Index := Scalar.indexCast v239
  let c0_185 : Index := 0#32
  ![v240.toNat, 0]
def k0_dev10 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_176 : BitVec 32 := 1#32
  let v227 : BitVec 32 := Scalar.subi v2 c1_i32_176
  let c4_i32_177 : BitVec 32 := 4#32
  let c0_i32_178 : BitVec 32 := 0#32
  let v228 : BitVec 1 := Scalar.cmpi .eq c4_i32_177 c0_i32_178
  let c1_i32_179 : BitVec 32 := 1#32
  let v229 : BitVec 32 := Scalar.select v228 c1_i32_179 c4_i32_177
  let v230 : BitVec 32 := Scalar.remsi v227 v229
  let c0_i32_181 : BitVec 32 := 0#32
  let v232 : BitVec 1 := Scalar.cmpi .slt v230 c0_i32_181
  let c0_i32_182 : BitVec 32 := 0#32
  let v233 : BitVec 1 := Scalar.cmpi .slt v229 c0_i32_182
  let v234 : BitVec 1 := Scalar.xori v232 v233
  let c0_i32_180 : BitVec 32 := 0#32
  let v231 : BitVec 1 := Scalar.cmpi .ne v230 c0_i32_180
  let v235 : BitVec 1 := Scalar.andi v234 v231
  let v236 : BitVec 32 := Scalar.addi v230 v229
  let v237 : BitVec 32 := Scalar.select v235 v236 v230
  let c1_i32_206 : BitVec 32 := 1#32
  let v255 : BitVec 32 := Scalar.muli v237 c1_i32_206
  let v256 : BitVec 32 := Scalar.addi c0_i32_207 v255
  v256.toNat
def k0_dev11 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_220 : BitVec 32 := 3#32
  let v271 : BitVec 32 := Scalar.subi v2 c3_i32_220
  let c4_i32_221 : BitVec 32 := 4#32
  let c0_i32_222 : BitVec 32 := 0#32
  let v272 : BitVec 1 := Scalar.cmpi .eq c4_i32_221 c0_i32_222
  let c1_i32_223 : BitVec 32 := 1#32
  let v273 : BitVec 32 := Scalar.select v272 c1_i32_223 c4_i32_221
  let v274 : BitVec 32 := Scalar.remsi v271 v273
  let c0_i32_225 : BitVec 32 := 0#32
  let v276 : BitVec 1 := Scalar.cmpi .slt v274 c0_i32_225
  let c0_i32_226 : BitVec 32 := 0#32
  let v277 : BitVec 1 := Scalar.cmpi .slt v273 c0_i32_226
  let v278 : BitVec 1 := Scalar.xori v276 v277
  let c0_i32_224 : BitVec 32 := 0#32
  let v275 : BitVec 1 := Scalar.cmpi .ne v274 c0_i32_224
  let v279 : BitVec 1 := Scalar.andi v278 v275
  let v280 : BitVec 32 := Scalar.addi v274 v273
  let v281 : BitVec 32 := Scalar.select v279 v280 v274
  let c1_i32_251 : BitVec 32 := 1#32
  let v299 : BitVec 32 := Scalar.muli v281 c1_i32_251
  let v300 : BitVec 32 := Scalar.addi c0_i32_252 v299
  v300.toNat
def k0_dev12 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_265 : BitVec 32 := 1#32
  let v315 : BitVec 32 := Scalar.subi v2 c1_i32_265
  let c4_i32_266 : BitVec 32 := 4#32
  let c0_i32_267 : BitVec 32 := 0#32
  let v316 : BitVec 1 := Scalar.cmpi .eq c4_i32_266 c0_i32_267
  let c1_i32_268 : BitVec 32 := 1#32
  let v317 : BitVec 32 := Scalar.select v316 c1_i32_268 c4_i32_266
  let v318 : BitVec 32 := Scalar.remsi v315 v317
  let c0_i32_270 : BitVec 32 := 0#32
  let v320 : BitVec 1 := Scalar.cmpi .slt v318 c0_i32_270
  let c0_i32_271 : BitVec 32 := 0#32
  let v321 : BitVec 1 := Scalar.cmpi .slt v317 c0_i32_271
  let v322 : BitVec 1 := Scalar.xori v320 v321
  let c0_i32_269 : BitVec 32 := 0#32
  let v319 : BitVec 1 := Scalar.cmpi .ne v318 c0_i32_269
  let v323 : BitVec 1 := Scalar.andi v322 v319
  let v324 : BitVec 32 := Scalar.addi v318 v317
  let v325 : BitVec 32 := Scalar.select v323 v324 v318
  let c1_i32_295 : BitVec 32 := 1#32
  let v343 : BitVec 32 := Scalar.muli v325 c1_i32_295
  let v344 : BitVec 32 := Scalar.addi c0_i32_296 v343
  v344.toNat
def k0_dev13 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_309 : BitVec 32 := 3#32
  let v359 : BitVec 32 := Scalar.subi v2 c3_i32_309
  let c4_i32_310 : BitVec 32 := 4#32
  let c0_i32_311 : BitVec 32 := 0#32
  let v360 : BitVec 1 := Scalar.cmpi .eq c4_i32_310 c0_i32_311
  let c1_i32_312 : BitVec 32 := 1#32
  let v361 : BitVec 32 := Scalar.select v360 c1_i32_312 c4_i32_310
  let v362 : BitVec 32 := Scalar.remsi v359 v361
  let c0_i32_314 : BitVec 32 := 0#32
  let v364 : BitVec 1 := Scalar.cmpi .slt v362 c0_i32_314
  let c0_i32_315 : BitVec 32 := 0#32
  let v365 : BitVec 1 := Scalar.cmpi .slt v361 c0_i32_315
  let v366 : BitVec 1 := Scalar.xori v364 v365
  let c0_i32_313 : BitVec 32 := 0#32
  let v363 : BitVec 1 := Scalar.cmpi .ne v362 c0_i32_313
  let v367 : BitVec 1 := Scalar.andi v366 v363
  let v368 : BitVec 32 := Scalar.addi v362 v361
  let v369 : BitVec 32 := Scalar.select v367 v368 v362
  let c1_i32_340 : BitVec 32 := 1#32
  let v387 : BitVec 32 := Scalar.muli v369 c1_i32_340
  let v388 : BitVec 32 := Scalar.addi c0_i32_341 v387
  v388.toNat
def k0_dev14 (d0 : Dev nD) : Nat :=
  let c0_i32_386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_354 : BitVec 32 := 2#32
  let v403 : BitVec 32 := Scalar.subi v2 c2_i32_354
  let c4_i32_355 : BitVec 32 := 4#32
  let c0_i32_356 : BitVec 32 := 0#32
  let v404 : BitVec 1 := Scalar.cmpi .eq c4_i32_355 c0_i32_356
  let c1_i32_357 : BitVec 32 := 1#32
  let v405 : BitVec 32 := Scalar.select v404 c1_i32_357 c4_i32_355
  let v406 : BitVec 32 := Scalar.remsi v403 v405
  let c0_i32_359 : BitVec 32 := 0#32
  let v408 : BitVec 1 := Scalar.cmpi .slt v406 c0_i32_359
  let c0_i32_360 : BitVec 32 := 0#32
  let v409 : BitVec 1 := Scalar.cmpi .slt v405 c0_i32_360
  let v410 : BitVec 1 := Scalar.xori v408 v409
  let c0_i32_358 : BitVec 32 := 0#32
  let v407 : BitVec 1 := Scalar.cmpi .ne v406 c0_i32_358
  let v411 : BitVec 1 := Scalar.andi v410 v407
  let v412 : BitVec 32 := Scalar.addi v406 v405
  let v413 : BitVec 32 := Scalar.select v411 v412 v406
  let c1_i32_385 : BitVec 32 := 1#32
  let v431 : BitVec 32 := Scalar.muli v413 c1_i32_385
  let v432 : BitVec 32 := Scalar.addi c0_i32_386 v431
  v432.toNat
def k0_dev15 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_399 : BitVec 32 := 2#32
  let v447 : BitVec 32 := Scalar.subi v2 c2_i32_399
  let c4_i32_400 : BitVec 32 := 4#32
  let c0_i32_401 : BitVec 32 := 0#32
  let v448 : BitVec 1 := Scalar.cmpi .eq c4_i32_400 c0_i32_401
  let c1_i32_402 : BitVec 32 := 1#32
  let v449 : BitVec 32 := Scalar.select v448 c1_i32_402 c4_i32_400
  let v450 : BitVec 32 := Scalar.remsi v447 v449
  let c0_i32_404 : BitVec 32 := 0#32
  let v452 : BitVec 1 := Scalar.cmpi .slt v450 c0_i32_404
  let c0_i32_405 : BitVec 32 := 0#32
  let v453 : BitVec 1 := Scalar.cmpi .slt v449 c0_i32_405
  let v454 : BitVec 1 := Scalar.xori v452 v453
  let c0_i32_403 : BitVec 32 := 0#32
  let v451 : BitVec 1 := Scalar.cmpi .ne v450 c0_i32_403
  let v455 : BitVec 1 := Scalar.andi v454 v451
  let v456 : BitVec 32 := Scalar.addi v450 v449
  let v457 : BitVec 32 := Scalar.select v455 v456 v450
  let c1_i32_429 : BitVec 32 := 1#32
  let v475 : BitVec 32 := Scalar.muli v457 c1_i32_429
  let v476 : BitVec 32 := Scalar.addi c0_i32_430 v475
  v476.toNat
def k0_dev16 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_492 : BitVec 32 := 1#32
  let v528 : BitVec 32 := Scalar.addi v2 c1_i32_492
  let c4_i32_493 : BitVec 32 := 4#32
  let c0_i32_494 : BitVec 32 := 0#32
  let v529 : BitVec 1 := Scalar.cmpi .eq c4_i32_493 c0_i32_494
  let c1_i32_495 : BitVec 32 := 1#32
  let v530 : BitVec 32 := Scalar.select v529 c1_i32_495 c4_i32_493
  let v531 : BitVec 32 := Scalar.remsi v528 v530
  let c0_i32_497 : BitVec 32 := 0#32
  let v533 : BitVec 1 := Scalar.cmpi .slt v531 c0_i32_497
  let c0_i32_498 : BitVec 32 := 0#32
  let v534 : BitVec 1 := Scalar.cmpi .slt v530 c0_i32_498
  let v535 : BitVec 1 := Scalar.xori v533 v534
  let c0_i32_496 : BitVec 32 := 0#32
  let v532 : BitVec 1 := Scalar.cmpi .ne v531 c0_i32_496
  let v536 : BitVec 1 := Scalar.andi v535 v532
  let v537 : BitVec 32 := Scalar.addi v531 v530
  let v538 : BitVec 32 := Scalar.select v536 v537 v531
  let c1_i32_503 : BitVec 32 := 1#32
  let v539 : BitVec 32 := Scalar.muli v538 c1_i32_503
  let v540 : BitVec 32 := Scalar.addi c0_i32_504 v539
  v540.toNat
def k0_dev17 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_507 : BitVec 32 := 2#32
  let v547 : BitVec 32 := Scalar.addi v2 c2_i32_507
  let c4_i32_508 : BitVec 32 := 4#32
  let c0_i32_509 : BitVec 32 := 0#32
  let v548 : BitVec 1 := Scalar.cmpi .eq c4_i32_508 c0_i32_509
  let c1_i32_510 : BitVec 32 := 1#32
  let v549 : BitVec 32 := Scalar.select v548 c1_i32_510 c4_i32_508
  let v550 : BitVec 32 := Scalar.remsi v547 v549
  let c0_i32_512 : BitVec 32 := 0#32
  let v552 : BitVec 1 := Scalar.cmpi .slt v550 c0_i32_512
  let c0_i32_513 : BitVec 32 := 0#32
  let v553 : BitVec 1 := Scalar.cmpi .slt v549 c0_i32_513
  let v554 : BitVec 1 := Scalar.xori v552 v553
  let c0_i32_511 : BitVec 32 := 0#32
  let v551 : BitVec 1 := Scalar.cmpi .ne v550 c0_i32_511
  let v555 : BitVec 1 := Scalar.andi v554 v551
  let v556 : BitVec 32 := Scalar.addi v550 v549
  let v557 : BitVec 32 := Scalar.select v555 v556 v550
  let c1_i32_518 : BitVec 32 := 1#32
  let v558 : BitVec 32 := Scalar.muli v557 c1_i32_518
  let v559 : BitVec 32 := Scalar.addi c0_i32_519 v558
  v559.toNat
def k0_dev18 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_522 : BitVec 32 := 3#32
  let v566 : BitVec 32 := Scalar.addi v2 c3_i32_522
  let c4_i32_523 : BitVec 32 := 4#32
  let c0_i32_524 : BitVec 32 := 0#32
  let v567 : BitVec 1 := Scalar.cmpi .eq c4_i32_523 c0_i32_524
  let c1_i32_525 : BitVec 32 := 1#32
  let v568 : BitVec 32 := Scalar.select v567 c1_i32_525 c4_i32_523
  let v569 : BitVec 32 := Scalar.remsi v566 v568
  let c0_i32_527 : BitVec 32 := 0#32
  let v571 : BitVec 1 := Scalar.cmpi .slt v569 c0_i32_527
  let c0_i32_528 : BitVec 32 := 0#32
  let v572 : BitVec 1 := Scalar.cmpi .slt v568 c0_i32_528
  let v573 : BitVec 1 := Scalar.xori v571 v572
  let c0_i32_526 : BitVec 32 := 0#32
  let v570 : BitVec 1 := Scalar.cmpi .ne v569 c0_i32_526
  let v574 : BitVec 1 := Scalar.andi v573 v570
  let v575 : BitVec 32 := Scalar.addi v569 v568
  let v576 : BitVec 32 := Scalar.select v574 v575 v569
  let c1_i32_533 : BitVec 32 := 1#32
  let v577 : BitVec 32 := Scalar.muli v576 c1_i32_533
  let v578 : BitVec 32 := Scalar.addi c0_i32_534 v577
  v578.toNat
def k0_dev19 (d0 : Dev nD) : Nat :=
  let c0_i32_615 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_603 : BitVec 32 := 1#32
  let v637 : BitVec 32 := Scalar.addi v2 c1_i32_603
  let c4_i32_604 : BitVec 32 := 4#32
  let c0_i32_605 : BitVec 32 := 0#32
  let v638 : BitVec 1 := Scalar.cmpi .eq c4_i32_604 c0_i32_605
  let c1_i32_606 : BitVec 32 := 1#32
  let v639 : BitVec 32 := Scalar.select v638 c1_i32_606 c4_i32_604
  let v640 : BitVec 32 := Scalar.remsi v637 v639
  let c0_i32_608 : BitVec 32 := 0#32
  let v642 : BitVec 1 := Scalar.cmpi .slt v640 c0_i32_608
  let c0_i32_609 : BitVec 32 := 0#32
  let v643 : BitVec 1 := Scalar.cmpi .slt v639 c0_i32_609
  let v644 : BitVec 1 := Scalar.xori v642 v643
  let c0_i32_607 : BitVec 32 := 0#32
  let v641 : BitVec 1 := Scalar.cmpi .ne v640 c0_i32_607
  let v645 : BitVec 1 := Scalar.andi v644 v641
  let v646 : BitVec 32 := Scalar.addi v640 v639
  let v647 : BitVec 32 := Scalar.select v645 v646 v640
  let c1_i32_614 : BitVec 32 := 1#32
  let v648 : BitVec 32 := Scalar.muli v647 c1_i32_614
  let v649 : BitVec 32 := Scalar.addi c0_i32_615 v648
  v649.toNat
def k0_dev20 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_618 : BitVec 32 := 2#32
  let v656 : BitVec 32 := Scalar.addi v2 c2_i32_618
  let c4_i32_619 : BitVec 32 := 4#32
  let c0_i32_620 : BitVec 32 := 0#32
  let v657 : BitVec 1 := Scalar.cmpi .eq c4_i32_619 c0_i32_620
  let c1_i32_621 : BitVec 32 := 1#32
  let v658 : BitVec 32 := Scalar.select v657 c1_i32_621 c4_i32_619
  let v659 : BitVec 32 := Scalar.remsi v656 v658
  let c0_i32_623 : BitVec 32 := 0#32
  let v661 : BitVec 1 := Scalar.cmpi .slt v659 c0_i32_623
  let c0_i32_624 : BitVec 32 := 0#32
  let v662 : BitVec 1 := Scalar.cmpi .slt v658 c0_i32_624
  let v663 : BitVec 1 := Scalar.xori v661 v662
  let c0_i32_622 : BitVec 32 := 0#32
  let v660 : BitVec 1 := Scalar.cmpi .ne v659 c0_i32_622
  let v664 : BitVec 1 := Scalar.andi v663 v660
  let v665 : BitVec 32 := Scalar.addi v659 v658
  let v666 : BitVec 32 := Scalar.select v664 v665 v659
  let c1_i32_629 : BitVec 32 := 1#32
  let v667 : BitVec 32 := Scalar.muli v666 c1_i32_629
  let v668 : BitVec 32 := Scalar.addi c0_i32_630 v667
  v668.toNat
def k0_dev21 (d0 : Dev nD) : Nat :=
  let c0_i32_645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_633 : BitVec 32 := 3#32
  let v675 : BitVec 32 := Scalar.addi v2 c3_i32_633
  let c4_i32_634 : BitVec 32 := 4#32
  let c0_i32_635 : BitVec 32 := 0#32
  let v676 : BitVec 1 := Scalar.cmpi .eq c4_i32_634 c0_i32_635
  let c1_i32_636 : BitVec 32 := 1#32
  let v677 : BitVec 32 := Scalar.select v676 c1_i32_636 c4_i32_634
  let v678 : BitVec 32 := Scalar.remsi v675 v677
  let c0_i32_638 : BitVec 32 := 0#32
  let v680 : BitVec 1 := Scalar.cmpi .slt v678 c0_i32_638
  let c0_i32_639 : BitVec 32 := 0#32
  let v681 : BitVec 1 := Scalar.cmpi .slt v677 c0_i32_639
  let v682 : BitVec 1 := Scalar.xori v680 v681
  let c0_i32_637 : BitVec 32 := 0#32
  let v679 : BitVec 1 := Scalar.cmpi .ne v678 c0_i32_637
  let v683 : BitVec 1 := Scalar.andi v682 v679
  let v684 : BitVec 32 := Scalar.addi v678 v677
  let v685 : BitVec 32 := Scalar.select v683 v684 v678
  let c1_i32_644 : BitVec 32 := 1#32
  let v686 : BitVec 32 := Scalar.muli v685 c1_i32_644
  let v687 : BitVec 32 := Scalar.addi c0_i32_645 v686
  v687.toNat
def k0_dev22 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_665 : BitVec 32 := 1#32
  let v709 : BitVec 32 := Scalar.subi v2 c1_i32_665
  let c4_i32_666 : BitVec 32 := 4#32
  let c0_i32_667 : BitVec 32 := 0#32
  let v710 : BitVec 1 := Scalar.cmpi .eq c4_i32_666 c0_i32_667
  let c1_i32_668 : BitVec 32 := 1#32
  let v711 : BitVec 32 := Scalar.select v710 c1_i32_668 c4_i32_666
  let v712 : BitVec 32 := Scalar.remsi v709 v711
  let c0_i32_670 : BitVec 32 := 0#32
  let v714 : BitVec 1 := Scalar.cmpi .slt v712 c0_i32_670
  let c0_i32_671 : BitVec 32 := 0#32
  let v715 : BitVec 1 := Scalar.cmpi .slt v711 c0_i32_671
  let v716 : BitVec 1 := Scalar.xori v714 v715
  let c0_i32_669 : BitVec 32 := 0#32
  let v713 : BitVec 1 := Scalar.cmpi .ne v712 c0_i32_669
  let v717 : BitVec 1 := Scalar.andi v716 v713
  let v718 : BitVec 32 := Scalar.addi v712 v711
  let v719 : BitVec 32 := Scalar.select v717 v718 v712
  let c1_i32_696 : BitVec 32 := 1#32
  let v737 : BitVec 32 := Scalar.muli v719 c1_i32_696
  let v738 : BitVec 32 := Scalar.addi c0_i32_697 v737
  v738.toNat
def k0_dev23 (d0 : Dev nD) : Nat :=
  let c0_i32_742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_710 : BitVec 32 := 3#32
  let v753 : BitVec 32 := Scalar.subi v2 c3_i32_710
  let c4_i32_711 : BitVec 32 := 4#32
  let c0_i32_712 : BitVec 32 := 0#32
  let v754 : BitVec 1 := Scalar.cmpi .eq c4_i32_711 c0_i32_712
  let c1_i32_713 : BitVec 32 := 1#32
  let v755 : BitVec 32 := Scalar.select v754 c1_i32_713 c4_i32_711
  let v756 : BitVec 32 := Scalar.remsi v753 v755
  let c0_i32_715 : BitVec 32 := 0#32
  let v758 : BitVec 1 := Scalar.cmpi .slt v756 c0_i32_715
  let c0_i32_716 : BitVec 32 := 0#32
  let v759 : BitVec 1 := Scalar.cmpi .slt v755 c0_i32_716
  let v760 : BitVec 1 := Scalar.xori v758 v759
  let c0_i32_714 : BitVec 32 := 0#32
  let v757 : BitVec 1 := Scalar.cmpi .ne v756 c0_i32_714
  let v761 : BitVec 1 := Scalar.andi v760 v757
  let v762 : BitVec 32 := Scalar.addi v756 v755
  let v763 : BitVec 32 := Scalar.select v761 v762 v756
  let c1_i32_741 : BitVec 32 := 1#32
  let v781 : BitVec 32 := Scalar.muli v763 c1_i32_741
  let v782 : BitVec 32 := Scalar.addi c0_i32_742 v781
  v782.toNat
def k0_dev24 (d0 : Dev nD) : Nat :=
  let c0_i32_787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_755 : BitVec 32 := 1#32
  let v797 : BitVec 32 := Scalar.subi v2 c1_i32_755
  let c4_i32_756 : BitVec 32 := 4#32
  let c0_i32_757 : BitVec 32 := 0#32
  let v798 : BitVec 1 := Scalar.cmpi .eq c4_i32_756 c0_i32_757
  let c1_i32_758 : BitVec 32 := 1#32
  let v799 : BitVec 32 := Scalar.select v798 c1_i32_758 c4_i32_756
  let v800 : BitVec 32 := Scalar.remsi v797 v799
  let c0_i32_760 : BitVec 32 := 0#32
  let v802 : BitVec 1 := Scalar.cmpi .slt v800 c0_i32_760
  let c0_i32_761 : BitVec 32 := 0#32
  let v803 : BitVec 1 := Scalar.cmpi .slt v799 c0_i32_761
  let v804 : BitVec 1 := Scalar.xori v802 v803
  let c0_i32_759 : BitVec 32 := 0#32
  let v801 : BitVec 1 := Scalar.cmpi .ne v800 c0_i32_759
  let v805 : BitVec 1 := Scalar.andi v804 v801
  let v806 : BitVec 32 := Scalar.addi v800 v799
  let v807 : BitVec 32 := Scalar.select v805 v806 v800
  let c1_i32_786 : BitVec 32 := 1#32
  let v825 : BitVec 32 := Scalar.muli v807 c1_i32_786
  let v826 : BitVec 32 := Scalar.addi c0_i32_787 v825
  v826.toNat
def k0_dev25 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_800 : BitVec 32 := 3#32
  let v841 : BitVec 32 := Scalar.subi v2 c3_i32_800
  let c4_i32_801 : BitVec 32 := 4#32
  let c0_i32_802 : BitVec 32 := 0#32
  let v842 : BitVec 1 := Scalar.cmpi .eq c4_i32_801 c0_i32_802
  let c1_i32_803 : BitVec 32 := 1#32
  let v843 : BitVec 32 := Scalar.select v842 c1_i32_803 c4_i32_801
  let v844 : BitVec 32 := Scalar.remsi v841 v843
  let c0_i32_805 : BitVec 32 := 0#32
  let v846 : BitVec 1 := Scalar.cmpi .slt v844 c0_i32_805
  let c0_i32_806 : BitVec 32 := 0#32
  let v847 : BitVec 1 := Scalar.cmpi .slt v843 c0_i32_806
  let v848 : BitVec 1 := Scalar.xori v846 v847
  let c0_i32_804 : BitVec 32 := 0#32
  let v845 : BitVec 1 := Scalar.cmpi .ne v844 c0_i32_804
  let v849 : BitVec 1 := Scalar.andi v848 v845
  let v850 : BitVec 32 := Scalar.addi v844 v843
  let v851 : BitVec 32 := Scalar.select v849 v850 v844
  let c1_i32_831 : BitVec 32 := 1#32
  let v869 : BitVec 32 := Scalar.muli v851 c1_i32_831
  let v870 : BitVec 32 := Scalar.addi c0_i32_832 v869
  v870.toNat
def k0_dev26 (d0 : Dev nD) : Nat :=
  let c0_i32_877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_845 : BitVec 32 := 2#32
  let v885 : BitVec 32 := Scalar.subi v2 c2_i32_845
  let c4_i32_846 : BitVec 32 := 4#32
  let c0_i32_847 : BitVec 32 := 0#32
  let v886 : BitVec 1 := Scalar.cmpi .eq c4_i32_846 c0_i32_847
  let c1_i32_848 : BitVec 32 := 1#32
  let v887 : BitVec 32 := Scalar.select v886 c1_i32_848 c4_i32_846
  let v888 : BitVec 32 := Scalar.remsi v885 v887
  let c0_i32_850 : BitVec 32 := 0#32
  let v890 : BitVec 1 := Scalar.cmpi .slt v888 c0_i32_850
  let c0_i32_851 : BitVec 32 := 0#32
  let v891 : BitVec 1 := Scalar.cmpi .slt v887 c0_i32_851
  let v892 : BitVec 1 := Scalar.xori v890 v891
  let c0_i32_849 : BitVec 32 := 0#32
  let v889 : BitVec 1 := Scalar.cmpi .ne v888 c0_i32_849
  let v893 : BitVec 1 := Scalar.andi v892 v889
  let v894 : BitVec 32 := Scalar.addi v888 v887
  let v895 : BitVec 32 := Scalar.select v893 v894 v888
  let c1_i32_876 : BitVec 32 := 1#32
  let v913 : BitVec 32 := Scalar.muli v895 c1_i32_876
  let v914 : BitVec 32 := Scalar.addi c0_i32_877 v913
  v914.toNat
def k0_dev27 (d0 : Dev nD) : Nat :=
  let c0_i32_922 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_890 : BitVec 32 := 2#32
  let v929 : BitVec 32 := Scalar.subi v2 c2_i32_890
  let c4_i32_891 : BitVec 32 := 4#32
  let c0_i32_892 : BitVec 32 := 0#32
  let v930 : BitVec 1 := Scalar.cmpi .eq c4_i32_891 c0_i32_892
  let c1_i32_893 : BitVec 32 := 1#32
  let v931 : BitVec 32 := Scalar.select v930 c1_i32_893 c4_i32_891
  let v932 : BitVec 32 := Scalar.remsi v929 v931
  let c0_i32_895 : BitVec 32 := 0#32
  let v934 : BitVec 1 := Scalar.cmpi .slt v932 c0_i32_895
  let c0_i32_896 : BitVec 32 := 0#32
  let v935 : BitVec 1 := Scalar.cmpi .slt v931 c0_i32_896
  let v936 : BitVec 1 := Scalar.xori v934 v935
  let c0_i32_894 : BitVec 32 := 0#32
  let v933 : BitVec 1 := Scalar.cmpi .ne v932 c0_i32_894
  let v937 : BitVec 1 := Scalar.andi v936 v933
  let v938 : BitVec 32 := Scalar.addi v932 v931
  let v939 : BitVec 32 := Scalar.select v937 v938 v932
  let c1_i32_921 : BitVec 32 := 1#32
  let v957 : BitVec 32 := Scalar.muli v939 c1_i32_921
  let v958 : BitVec 32 := Scalar.addi c0_i32_922 v957
  v958.toNat
def k0_dev28 (d0 : Dev nD) : Nat :=
  let c0_i32_996 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_984 : BitVec 32 := 1#32
  let v1010 : BitVec 32 := Scalar.addi v2 c1_i32_984
  let c4_i32_985 : BitVec 32 := 4#32
  let c0_i32_986 : BitVec 32 := 0#32
  let v1011 : BitVec 1 := Scalar.cmpi .eq c4_i32_985 c0_i32_986
  let c1_i32_987 : BitVec 32 := 1#32
  let v1012 : BitVec 32 := Scalar.select v1011 c1_i32_987 c4_i32_985
  let v1013 : BitVec 32 := Scalar.remsi v1010 v1012
  let c0_i32_989 : BitVec 32 := 0#32
  let v1015 : BitVec 1 := Scalar.cmpi .slt v1013 c0_i32_989
  let c0_i32_990 : BitVec 32 := 0#32
  let v1016 : BitVec 1 := Scalar.cmpi .slt v1012 c0_i32_990
  let v1017 : BitVec 1 := Scalar.xori v1015 v1016
  let c0_i32_988 : BitVec 32 := 0#32
  let v1014 : BitVec 1 := Scalar.cmpi .ne v1013 c0_i32_988
  let v1018 : BitVec 1 := Scalar.andi v1017 v1014
  let v1019 : BitVec 32 := Scalar.addi v1013 v1012
  let v1020 : BitVec 32 := Scalar.select v1018 v1019 v1013
  let c1_i32_995 : BitVec 32 := 1#32
  let v1021 : BitVec 32 := Scalar.muli v1020 c1_i32_995
  let v1022 : BitVec 32 := Scalar.addi c0_i32_996 v1021
  v1022.toNat
def k0_dev29 (d0 : Dev nD) : Nat :=
  let c0_i32_1011 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_999 : BitVec 32 := 2#32
  let v1029 : BitVec 32 := Scalar.addi v2 c2_i32_999
  let c4_i32_1000 : BitVec 32 := 4#32
  let c0_i32_1001 : BitVec 32 := 0#32
  let v1030 : BitVec 1 := Scalar.cmpi .eq c4_i32_1000 c0_i32_1001
  let c1_i32_1002 : BitVec 32 := 1#32
  let v1031 : BitVec 32 := Scalar.select v1030 c1_i32_1002 c4_i32_1000
  let v1032 : BitVec 32 := Scalar.remsi v1029 v1031
  let c0_i32_1004 : BitVec 32 := 0#32
  let v1034 : BitVec 1 := Scalar.cmpi .slt v1032 c0_i32_1004
  let c0_i32_1005 : BitVec 32 := 0#32
  let v1035 : BitVec 1 := Scalar.cmpi .slt v1031 c0_i32_1005
  let v1036 : BitVec 1 := Scalar.xori v1034 v1035
  let c0_i32_1003 : BitVec 32 := 0#32
  let v1033 : BitVec 1 := Scalar.cmpi .ne v1032 c0_i32_1003
  let v1037 : BitVec 1 := Scalar.andi v1036 v1033
  let v1038 : BitVec 32 := Scalar.addi v1032 v1031
  let v1039 : BitVec 32 := Scalar.select v1037 v1038 v1032
  let c1_i32_1010 : BitVec 32 := 1#32
  let v1040 : BitVec 32 := Scalar.muli v1039 c1_i32_1010
  let v1041 : BitVec 32 := Scalar.addi c0_i32_1011 v1040
  v1041.toNat
def k0_dev30 (d0 : Dev nD) : Nat :=
  let c0_i32_1026 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1014 : BitVec 32 := 3#32
  let v1048 : BitVec 32 := Scalar.addi v2 c3_i32_1014
  let c4_i32_1015 : BitVec 32 := 4#32
  let c0_i32_1016 : BitVec 32 := 0#32
  let v1049 : BitVec 1 := Scalar.cmpi .eq c4_i32_1015 c0_i32_1016
  let c1_i32_1017 : BitVec 32 := 1#32
  let v1050 : BitVec 32 := Scalar.select v1049 c1_i32_1017 c4_i32_1015
  let v1051 : BitVec 32 := Scalar.remsi v1048 v1050
  let c0_i32_1019 : BitVec 32 := 0#32
  let v1053 : BitVec 1 := Scalar.cmpi .slt v1051 c0_i32_1019
  let c0_i32_1020 : BitVec 32 := 0#32
  let v1054 : BitVec 1 := Scalar.cmpi .slt v1050 c0_i32_1020
  let v1055 : BitVec 1 := Scalar.xori v1053 v1054
  let c0_i32_1018 : BitVec 32 := 0#32
  let v1052 : BitVec 1 := Scalar.cmpi .ne v1051 c0_i32_1018
  let v1056 : BitVec 1 := Scalar.andi v1055 v1052
  let v1057 : BitVec 32 := Scalar.addi v1051 v1050
  let v1058 : BitVec 32 := Scalar.select v1056 v1057 v1051
  let c1_i32_1025 : BitVec 32 := 1#32
  let v1059 : BitVec 32 := Scalar.muli v1058 c1_i32_1025
  let v1060 : BitVec 32 := Scalar.addi c0_i32_1026 v1059
  v1060.toNat
def k0_dev31 (d0 : Dev nD) : Nat :=
  let c0_i32_1107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1095 : BitVec 32 := 1#32
  let v1119 : BitVec 32 := Scalar.addi v2 c1_i32_1095
  let c4_i32_1096 : BitVec 32 := 4#32
  let c0_i32_1097 : BitVec 32 := 0#32
  let v1120 : BitVec 1 := Scalar.cmpi .eq c4_i32_1096 c0_i32_1097
  let c1_i32_1098 : BitVec 32 := 1#32
  let v1121 : BitVec 32 := Scalar.select v1120 c1_i32_1098 c4_i32_1096
  let v1122 : BitVec 32 := Scalar.remsi v1119 v1121
  let c0_i32_1100 : BitVec 32 := 0#32
  let v1124 : BitVec 1 := Scalar.cmpi .slt v1122 c0_i32_1100
  let c0_i32_1101 : BitVec 32 := 0#32
  let v1125 : BitVec 1 := Scalar.cmpi .slt v1121 c0_i32_1101
  let v1126 : BitVec 1 := Scalar.xori v1124 v1125
  let c0_i32_1099 : BitVec 32 := 0#32
  let v1123 : BitVec 1 := Scalar.cmpi .ne v1122 c0_i32_1099
  let v1127 : BitVec 1 := Scalar.andi v1126 v1123
  let v1128 : BitVec 32 := Scalar.addi v1122 v1121
  let v1129 : BitVec 32 := Scalar.select v1127 v1128 v1122
  let c1_i32_1106 : BitVec 32 := 1#32
  let v1130 : BitVec 32 := Scalar.muli v1129 c1_i32_1106
  let v1131 : BitVec 32 := Scalar.addi c0_i32_1107 v1130
  v1131.toNat
def k0_dev32 (d0 : Dev nD) : Nat :=
  let c0_i32_1122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1110 : BitVec 32 := 2#32
  let v1138 : BitVec 32 := Scalar.addi v2 c2_i32_1110
  let c4_i32_1111 : BitVec 32 := 4#32
  let c0_i32_1112 : BitVec 32 := 0#32
  let v1139 : BitVec 1 := Scalar.cmpi .eq c4_i32_1111 c0_i32_1112
  let c1_i32_1113 : BitVec 32 := 1#32
  let v1140 : BitVec 32 := Scalar.select v1139 c1_i32_1113 c4_i32_1111
  let v1141 : BitVec 32 := Scalar.remsi v1138 v1140
  let c0_i32_1115 : BitVec 32 := 0#32
  let v1143 : BitVec 1 := Scalar.cmpi .slt v1141 c0_i32_1115
  let c0_i32_1116 : BitVec 32 := 0#32
  let v1144 : BitVec 1 := Scalar.cmpi .slt v1140 c0_i32_1116
  let v1145 : BitVec 1 := Scalar.xori v1143 v1144
  let c0_i32_1114 : BitVec 32 := 0#32
  let v1142 : BitVec 1 := Scalar.cmpi .ne v1141 c0_i32_1114
  let v1146 : BitVec 1 := Scalar.andi v1145 v1142
  let v1147 : BitVec 32 := Scalar.addi v1141 v1140
  let v1148 : BitVec 32 := Scalar.select v1146 v1147 v1141
  let c1_i32_1121 : BitVec 32 := 1#32
  let v1149 : BitVec 32 := Scalar.muli v1148 c1_i32_1121
  let v1150 : BitVec 32 := Scalar.addi c0_i32_1122 v1149
  v1150.toNat
def k0_dev33 (d0 : Dev nD) : Nat :=
  let c0_i32_1137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1125 : BitVec 32 := 3#32
  let v1157 : BitVec 32 := Scalar.addi v2 c3_i32_1125
  let c4_i32_1126 : BitVec 32 := 4#32
  let c0_i32_1127 : BitVec 32 := 0#32
  let v1158 : BitVec 1 := Scalar.cmpi .eq c4_i32_1126 c0_i32_1127
  let c1_i32_1128 : BitVec 32 := 1#32
  let v1159 : BitVec 32 := Scalar.select v1158 c1_i32_1128 c4_i32_1126
  let v1160 : BitVec 32 := Scalar.remsi v1157 v1159
  let c0_i32_1130 : BitVec 32 := 0#32
  let v1162 : BitVec 1 := Scalar.cmpi .slt v1160 c0_i32_1130
  let c0_i32_1131 : BitVec 32 := 0#32
  let v1163 : BitVec 1 := Scalar.cmpi .slt v1159 c0_i32_1131
  let v1164 : BitVec 1 := Scalar.xori v1162 v1163
  let c0_i32_1129 : BitVec 32 := 0#32
  let v1161 : BitVec 1 := Scalar.cmpi .ne v1160 c0_i32_1129
  let v1165 : BitVec 1 := Scalar.andi v1164 v1161
  let v1166 : BitVec 32 := Scalar.addi v1160 v1159
  let v1167 : BitVec 32 := Scalar.select v1165 v1166 v1160
  let c1_i32_1136 : BitVec 32 := 1#32
  let v1168 : BitVec 32 := Scalar.muli v1167 c1_i32_1136
  let v1169 : BitVec 32 := Scalar.addi c0_i32_1137 v1168
  v1169.toNat
def k0_dev34 (d0 : Dev nD) : Nat :=
  let c0_i32_1189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1157 : BitVec 32 := 1#32
  let v1191 : BitVec 32 := Scalar.subi v2 c1_i32_1157
  let c4_i32_1158 : BitVec 32 := 4#32
  let c0_i32_1159 : BitVec 32 := 0#32
  let v1192 : BitVec 1 := Scalar.cmpi .eq c4_i32_1158 c0_i32_1159
  let c1_i32_1160 : BitVec 32 := 1#32
  let v1193 : BitVec 32 := Scalar.select v1192 c1_i32_1160 c4_i32_1158
  let v1194 : BitVec 32 := Scalar.remsi v1191 v1193
  let c0_i32_1162 : BitVec 32 := 0#32
  let v1196 : BitVec 1 := Scalar.cmpi .slt v1194 c0_i32_1162
  let c0_i32_1163 : BitVec 32 := 0#32
  let v1197 : BitVec 1 := Scalar.cmpi .slt v1193 c0_i32_1163
  let v1198 : BitVec 1 := Scalar.xori v1196 v1197
  let c0_i32_1161 : BitVec 32 := 0#32
  let v1195 : BitVec 1 := Scalar.cmpi .ne v1194 c0_i32_1161
  let v1199 : BitVec 1 := Scalar.andi v1198 v1195
  let v1200 : BitVec 32 := Scalar.addi v1194 v1193
  let v1201 : BitVec 32 := Scalar.select v1199 v1200 v1194
  let c1_i32_1188 : BitVec 32 := 1#32
  let v1219 : BitVec 32 := Scalar.muli v1201 c1_i32_1188
  let v1220 : BitVec 32 := Scalar.addi c0_i32_1189 v1219
  v1220.toNat
def k0_dev35 (d0 : Dev nD) : Nat :=
  let c0_i32_1234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1202 : BitVec 32 := 3#32
  let v1235 : BitVec 32 := Scalar.subi v2 c3_i32_1202
  let c4_i32_1203 : BitVec 32 := 4#32
  let c0_i32_1204 : BitVec 32 := 0#32
  let v1236 : BitVec 1 := Scalar.cmpi .eq c4_i32_1203 c0_i32_1204
  let c1_i32_1205 : BitVec 32 := 1#32
  let v1237 : BitVec 32 := Scalar.select v1236 c1_i32_1205 c4_i32_1203
  let v1238 : BitVec 32 := Scalar.remsi v1235 v1237
  let c0_i32_1207 : BitVec 32 := 0#32
  let v1240 : BitVec 1 := Scalar.cmpi .slt v1238 c0_i32_1207
  let c0_i32_1208 : BitVec 32 := 0#32
  let v1241 : BitVec 1 := Scalar.cmpi .slt v1237 c0_i32_1208
  let v1242 : BitVec 1 := Scalar.xori v1240 v1241
  let c0_i32_1206 : BitVec 32 := 0#32
  let v1239 : BitVec 1 := Scalar.cmpi .ne v1238 c0_i32_1206
  let v1243 : BitVec 1 := Scalar.andi v1242 v1239
  let v1244 : BitVec 32 := Scalar.addi v1238 v1237
  let v1245 : BitVec 32 := Scalar.select v1243 v1244 v1238
  let c1_i32_1233 : BitVec 32 := 1#32
  let v1263 : BitVec 32 := Scalar.muli v1245 c1_i32_1233
  let v1264 : BitVec 32 := Scalar.addi c0_i32_1234 v1263
  v1264.toNat
def k0_dev36 (d0 : Dev nD) : Nat :=
  let c0_i32_1279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1247 : BitVec 32 := 1#32
  let v1279 : BitVec 32 := Scalar.subi v2 c1_i32_1247
  let c4_i32_1248 : BitVec 32 := 4#32
  let c0_i32_1249 : BitVec 32 := 0#32
  let v1280 : BitVec 1 := Scalar.cmpi .eq c4_i32_1248 c0_i32_1249
  let c1_i32_1250 : BitVec 32 := 1#32
  let v1281 : BitVec 32 := Scalar.select v1280 c1_i32_1250 c4_i32_1248
  let v1282 : BitVec 32 := Scalar.remsi v1279 v1281
  let c0_i32_1252 : BitVec 32 := 0#32
  let v1284 : BitVec 1 := Scalar.cmpi .slt v1282 c0_i32_1252
  let c0_i32_1253 : BitVec 32 := 0#32
  let v1285 : BitVec 1 := Scalar.cmpi .slt v1281 c0_i32_1253
  let v1286 : BitVec 1 := Scalar.xori v1284 v1285
  let c0_i32_1251 : BitVec 32 := 0#32
  let v1283 : BitVec 1 := Scalar.cmpi .ne v1282 c0_i32_1251
  let v1287 : BitVec 1 := Scalar.andi v1286 v1283
  let v1288 : BitVec 32 := Scalar.addi v1282 v1281
  let v1289 : BitVec 32 := Scalar.select v1287 v1288 v1282
  let c1_i32_1278 : BitVec 32 := 1#32
  let v1307 : BitVec 32 := Scalar.muli v1289 c1_i32_1278
  let v1308 : BitVec 32 := Scalar.addi c0_i32_1279 v1307
  v1308.toNat
def k0_dev37 (d0 : Dev nD) : Nat :=
  let c0_i32_1324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1292 : BitVec 32 := 3#32
  let v1323 : BitVec 32 := Scalar.subi v2 c3_i32_1292
  let c4_i32_1293 : BitVec 32 := 4#32
  let c0_i32_1294 : BitVec 32 := 0#32
  let v1324 : BitVec 1 := Scalar.cmpi .eq c4_i32_1293 c0_i32_1294
  let c1_i32_1295 : BitVec 32 := 1#32
  let v1325 : BitVec 32 := Scalar.select v1324 c1_i32_1295 c4_i32_1293
  let v1326 : BitVec 32 := Scalar.remsi v1323 v1325
  let c0_i32_1297 : BitVec 32 := 0#32
  let v1328 : BitVec 1 := Scalar.cmpi .slt v1326 c0_i32_1297
  let c0_i32_1298 : BitVec 32 := 0#32
  let v1329 : BitVec 1 := Scalar.cmpi .slt v1325 c0_i32_1298
  let v1330 : BitVec 1 := Scalar.xori v1328 v1329
  let c0_i32_1296 : BitVec 32 := 0#32
  let v1327 : BitVec 1 := Scalar.cmpi .ne v1326 c0_i32_1296
  let v1331 : BitVec 1 := Scalar.andi v1330 v1327
  let v1332 : BitVec 32 := Scalar.addi v1326 v1325
  let v1333 : BitVec 32 := Scalar.select v1331 v1332 v1326
  let c1_i32_1323 : BitVec 32 := 1#32
  let v1351 : BitVec 32 := Scalar.muli v1333 c1_i32_1323
  let v1352 : BitVec 32 := Scalar.addi c0_i32_1324 v1351
  v1352.toNat
def k0_dev38 (d0 : Dev nD) : Nat :=
  let c0_i32_1369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1337 : BitVec 32 := 2#32
  let v1367 : BitVec 32 := Scalar.subi v2 c2_i32_1337
  let c4_i32_1338 : BitVec 32 := 4#32
  let c0_i32_1339 : BitVec 32 := 0#32
  let v1368 : BitVec 1 := Scalar.cmpi .eq c4_i32_1338 c0_i32_1339
  let c1_i32_1340 : BitVec 32 := 1#32
  let v1369 : BitVec 32 := Scalar.select v1368 c1_i32_1340 c4_i32_1338
  let v1370 : BitVec 32 := Scalar.remsi v1367 v1369
  let c0_i32_1342 : BitVec 32 := 0#32
  let v1372 : BitVec 1 := Scalar.cmpi .slt v1370 c0_i32_1342
  let c0_i32_1343 : BitVec 32 := 0#32
  let v1373 : BitVec 1 := Scalar.cmpi .slt v1369 c0_i32_1343
  let v1374 : BitVec 1 := Scalar.xori v1372 v1373
  let c0_i32_1341 : BitVec 32 := 0#32
  let v1371 : BitVec 1 := Scalar.cmpi .ne v1370 c0_i32_1341
  let v1375 : BitVec 1 := Scalar.andi v1374 v1371
  let v1376 : BitVec 32 := Scalar.addi v1370 v1369
  let v1377 : BitVec 32 := Scalar.select v1375 v1376 v1370
  let c1_i32_1368 : BitVec 32 := 1#32
  let v1395 : BitVec 32 := Scalar.muli v1377 c1_i32_1368
  let v1396 : BitVec 32 := Scalar.addi c0_i32_1369 v1395
  v1396.toNat
def k0_dev39 (d0 : Dev nD) : Nat :=
  let c0_i32_1414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1382 : BitVec 32 := 2#32
  let v1411 : BitVec 32 := Scalar.subi v2 c2_i32_1382
  let c4_i32_1383 : BitVec 32 := 4#32
  let c0_i32_1384 : BitVec 32 := 0#32
  let v1412 : BitVec 1 := Scalar.cmpi .eq c4_i32_1383 c0_i32_1384
  let c1_i32_1385 : BitVec 32 := 1#32
  let v1413 : BitVec 32 := Scalar.select v1412 c1_i32_1385 c4_i32_1383
  let v1414 : BitVec 32 := Scalar.remsi v1411 v1413
  let c0_i32_1387 : BitVec 32 := 0#32
  let v1416 : BitVec 1 := Scalar.cmpi .slt v1414 c0_i32_1387
  let c0_i32_1388 : BitVec 32 := 0#32
  let v1417 : BitVec 1 := Scalar.cmpi .slt v1413 c0_i32_1388
  let v1418 : BitVec 1 := Scalar.xori v1416 v1417
  let c0_i32_1386 : BitVec 32 := 0#32
  let v1415 : BitVec 1 := Scalar.cmpi .ne v1414 c0_i32_1386
  let v1419 : BitVec 1 := Scalar.andi v1418 v1415
  let v1420 : BitVec 32 := Scalar.addi v1414 v1413
  let v1421 : BitVec 32 := Scalar.select v1419 v1420 v1414
  let c1_i32_1413 : BitVec 32 := 1#32
  let v1439 : BitVec 32 := Scalar.muli v1421 c1_i32_1413
  let v1440 : BitVec 32 := Scalar.addi c0_i32_1414 v1439
  v1440.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x256 : Shape := ⟨2, ![1024, 256]⟩
abbrev S256x2048 : Shape := ⟨2, ![256, 2048]⟩
abbrev S2048x256 : Shape := ⟨2, ![2048, 256]⟩
abbrev S1024x2048 : Shape := ⟨2, ![1024, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x2048, .bf16⟩
  | .hbm, ⟨2, _⟩ => ⟨S2048x256, .bf16⟩
  | .hbm, ⟨3, _⟩ => ⟨S256x2048, .bf16⟩
  | .hbm, ⟨4, _⟩ => ⟨S2048x256, .bf16⟩
  | .hbm, ⟨5, _⟩ => ⟨S256x2048, .bf16⟩
  | .hbm, ⟨6, _⟩ => ⟨S2048x256, .bf16⟩
  | .hbm, ⟨7, _⟩ => ⟨S1024x256, .f32⟩
  | .hbm, ⟨8, _⟩ => ⟨S256x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S2048x256, .f32⟩
  | .hbm, ⟨14, _⟩ => ⟨S1024x256, .f32⟩
  | .hbm, ⟨15, _⟩ => ⟨S256x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S2048x256, .f32⟩
  | .hbm, ⟨21, _⟩ => ⟨S1024x256, .f32⟩
  | .hbm, ⟨22, _⟩ => ⟨S256x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S2048x256, .f32⟩
  | .hbm, ⟨28, _⟩ => ⟨S1024x256, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Program.lean ====
/-
  The kernel's text folded up. The printed body is one straight run of some 270 operations; here the same run is written
  as it was meant: three layers, in each a store of the device's own rows and three sends per half, six times "wait for a
  peer's rows, compute its part, send it back", and the summing of the parts received. Every piece is a definition over
  the layer, the half and the peer, so that what is proved of a piece is proved once. That the folded run is the
  printed one is `Proof/ProgramEq.lean`'s.
-/
module

public import proofs.«01_k».proof.Defs
public import proofs.«01_k».proof.Proof.Gen.KernelIdeal
public import proofs.«01_k».proof.Proof.Gen.KernelIdeal.Skeleton
public import Idealize.ShloMosaic.Lib.Tactic

@[expose] public section

noncomputable section

namespace Cert.KernelIdeal.Mlp

open Cert.KernelIdeal Cert.KernelIdeal.Gen
open Idealize.ShloMosaic Idealize.SL.Sem

variable {F : FTy → Type} [FloatOps F]

/-- The programs of the kernel's body. -/
abbrev Pg (F : FTy → Type) (α : Type) : Type 1 := Prog (TpuEff nD τ sig (Elt F) Λ₀ .tc) α

/-! ## Buffers -/

/-- The gathered activations of layer `l`. -/
def XM : Fin 3 → Memref sig .tc .vmem S1024x256 .bf16
  | 0 => Memref.whole cc0_scratch0
  | 1 => Memref.whole cc0_scratch1
  | 2 => Memref.whole cc0_scratch2
theorem XM_whole : ∀ l, (XM l).IsWhole
  | 0 => Memref.isWhole_whole _
  | 1 => Memref.isWhole_whole _
  | 2 => Memref.isWhole_whole _
/-- The parts received. -/
abbrev RM : Memref sig .tc .vmem S3x6x128x256 .bf16 := Memref.whole cc0_scratch3
/-- The parts to send. -/
abbrev SM : Memref sig .tc .vmem S3x6x128x256 .bf16 := Memref.whole cc0_scratch4
/-- The first weights of the three layers, -/
abbrev UM : Memref sig .tc .vmem S3x256x512 .bf16 := Memref.whole cc0_scratch5
/-- and the second. -/
abbrev DM : Memref sig .tc .vmem S3x512x256 .bf16 := Memref.whole cc0_scratch6
theorem RM_whole : (RM).IsWhole := Memref.isWhole_whole _
theorem SM_whole : (SM).IsWhole := Memref.isWhole_whole _
theorem UM_whole : (UM).IsWhole := Memref.isWhole_whole _
theorem DM_whole : (DM).IsWhole := Memref.isWhole_whole _

/-! ## Rectangles -/

theorem inbU : ∀ l : Fin 3, ∀ a, (![l.val, 0, 0] : Fin 3 → Nat) a + S1x256x512.size a ≤ S3x256x512.size a := by decide +kernel
theorem inbD : ∀ l : Fin 3, ∀ a, (![l.val, 0, 0] : Fin 3 → Nat) a + S1x512x256.size a ≤ S3x512x256.size a := by decide +kernel
theorem inbP : ∀ (l : Fin 3) (b : Fin 6), ∀ a, (![l.val, b.val, 0, 0] : Fin 4 → Nat) a + S1x1x128x256.size a ≤ S3x6x128x256.size a := by decide +kernel
theorem inbS : ∀ (a b : Fin 6), ∀ i, (![a.val, b.val] : Fin 2 → Nat) i + S1x1.size i ≤ S6x6.size i := by decide +kernel
theorem inbH : ∀ h : Fin 2, ∀ i, (![128 * h.val, 0] : Fin 2 → Nat) i + S128x256.size i ≤ S256x256.size i := by decide +kernel

abbrev rU (l : Fin 3) : Rect S3x256x512 := Rect.unit (s := S3x256x512) ![l.val, 0, 0] S1x256x512.size (inbU l)
abbrev rD (l : Fin 3) : Rect S3x512x256 := Rect.unit (s := S3x512x256) ![l.val, 0, 0] S1x512x256.size (inbD l)
abbrev rP (l : Fin 3) (b : Fin 6) : Rect S3x6x128x256 := Rect.unit (s := S3x6x128x256) ![l.val, b.val, 0, 0] S1x1x128x256.size (inbP l b)
abbrev rH (h : Fin 2) : Rect S256x256 := Rect.unit (s := S256x256) ![128 * h.val, 0] S128x256.size (inbH h)

/-- Half `h` of device `d`'s own rows, as the stores address it, -/
abbrev rO (d : Dev nD) (h : Fin 2) : Rect S1024x256 := Rect.unit (s := S1024x256) (k0_off1 d (BitVec.ofNat 32 (128 * h.val))) S128x256.size (k0_off1_inb d h)
/-- as the transfers do, -/
abbrev rT (d : Dev nD) (h : Fin 2) : Rect S1024x256 := Rect.unit (s := S1024x256) (k0_off2 d (BitVec.ofNat 32 (128 * h.val))) S128x256.size (k0_off2_inb d h)
/-- and half `h` of the rows of the device `j + 1` before. -/
abbrev rF (d : Dev nD) (j : Fin 3) (h : Fin 2) : Rect S1024x256 := Rect.unit (s := S1024x256) (k0_off3 d (BitVec.ofNat 32 (1 + j.val)) (BitVec.ofNat 32 (128 * h.val))) S128x256.size (k0_off3_inb d j h)

theorem packU : ∀ l : Fin 3, (rU l).PackedRows (EltTy.packing .bf16) := by decide +kernel
theorem packD : ∀ l : Fin 3, (rD l).PackedRows (EltTy.packing .bf16) := by decide +kernel
theorem packP : ∀ (l : Fin 3) (b : Fin 6), (rP l b).PackedRows (EltTy.packing .bf16) := by decide +kernel
theorem wordsP : ∀ (l : Fin 3) (b : Fin 6), (rP l b).WholeWords (EltTy.packing .bf16) := by decide +kernel

/-! ## Semaphores -/

/-- The place of peer distance `j + 1` and half `h` in a row of six. -/
def pl (j : Fin 3) (h : Fin 2) : Fin 6 := ⟨2 * j.val + h.val, by omega⟩
/-- The row of the activations of layer `l`, -/
def rowX (l : Fin 3) : Fin 6 := ⟨2 * l.val, by omega⟩
/-- and of its parts. -/
def rowP (l : Fin 3) : Fin 6 := ⟨2 * l.val + 1, by omega⟩

/-- Semaphore `(a, b)` of a bank. -/
abbrev semAt (s : DmaSems sig S6x6) (a b : Fin 6) : DmaSem sig :=
  ((s.slice (Rect.unit (s := S6x6) ![a.val, b.val] S1x1.size (inbS a b))).squeeze S_ squeezes_S1x1_S_).sem

/-- The semaphores of the read-outs, -/
abbrev outSem (a b : Fin 6) : DmaSem sig := semAt cc0_scratch7 a b
/-- and of the landings. -/
abbrev inSem (a b : Fin 6) : DmaSem sig := semAt cc0_scratch8 a b
/-- The semaphore on which the devices meet. -/
abbrev barSem : Sem sig := (SemArray.scalar (sig.barrier 0 rfl) : Sems sig S_).sem

/-! ## Peers, as the text computes them -/

/-- The device `j + 1` after, for the signals, -/
def devB (d : Dev nD) : Fin 3 → Dev nD
  | 0 => ⟨k0_dev1 d, k0_dev1_lt d⟩
  | 1 => ⟨k0_dev2 d, k0_dev2_lt d⟩
  | 2 => ⟨k0_dev3 d, k0_dev3_lt d⟩
/-- for the activations, -/
def devX (d : Dev nD) : Fin 3 → Dev nD
  | 0 => ⟨k0_dev4 d, k0_dev4_lt d⟩
  | 1 => ⟨k0_dev5 d, k0_dev5_lt d⟩
  | 2 => ⟨k0_dev6 d, k0_dev6_lt d⟩
/-- and for the parts. -/
def devP (d : Dev nD) : Fin 3 → Dev nD
  | 0 => ⟨k0_dev11 d, k0_dev11_lt d⟩
  | 1 => ⟨k0_dev14 d, k0_dev14_lt d⟩
  | 2 => ⟨k0_dev10 d, k0_dev10_lt d⟩

/-! ## Values -/

/-- The two products of one layer, with the rectifier between: the rows `x`, the device's columns `u` of the first
    weights and rows `w` of the second. -/
def mlp (x : FVec F S128x256 .bf16) (u : Vec F S1x256x512 .bf16) (w : Vec F S1x512x256 .bf16) : FVec F S128x256 .f32 := k0_pay9 x u w
/-- A part as it travels. -/
def trunc (p : FVec F S128x256 .f32) : FVec F S128x256 .bf16 := truncf .bf16 p bitsLt_bf16_f32
/-- A slot's contents from a block's. -/
def slot (p : FVec F S128x256 .bf16) : FVec F S1x1x128x256 .bf16 := shapeCast S1x1x128x256 p shapeCasts_S128x256_S1x1x128x256
/-- A received part added on. -/
def addIn (p : FVec F S128x256 .f32) (r : Vec F S1x1x128x256 .bf16) : FVec F S128x256 .f32 := k0_pay24 p r

/-! ## The pieces -/

section Pieces
variable (d : Dev nD)

/-- Copy a first weight into its place. -/
def putU (l : Fin 3) (M : Memref sig .tc .vmem S256x512 .bf16) : Pg F PUnit := do
  let v ← Prog.lift (.load M (Rect.unit (s := S256x512) ![0, 0] S256x512.size inb_S256x512_S256x512_0_0).toLoadRect (View.loadsAt_vmem h_S256x512))
  let _ ← Prog.lift (.load UM (rU l).toLoadRect (View.loadsAt_vmem h_S1x256x512))
  Prog.lift (.store UM (rU l) (k0_pay1 v) Finset.univ (View.stores_vmem h_S1x256x512 (UM_whole.storeExact_slice rfl _ (packU l)) (fun _ => rfl)) (.inl rfl))
/-- Copy a second weight into its place. -/
def putD (l : Fin 3) (M : Memref sig .tc .vmem S512x256 .bf16) : Pg F PUnit := do
  let v ← Prog.lift (.load M (Rect.unit (s := S512x256) ![0, 0] S512x256.size inb_S512x256_S512x256_0_0).toLoadRect (View.loadsAt_vmem h_S512x256))
  let _ ← Prog.lift (.load DM (rD l).toLoadRect (View.loadsAt_vmem h_S1x512x256))
  Prog.lift (.store DM (rD l) (k0_pay2 v) Finset.univ (View.stores_vmem h_S1x512x256 (DM_whole.storeExact_slice rfl _ (packD l)) (fun _ => rfl)) (.inl rfl))
/-- Tell the three peers, and hear from them. -/
def meet : Pg F PUnit := do
  semSignalWord (devB d 0) barSem 1#32
  semSignalWord (devB d 1) barSem 1#32
  semSignalWord (devB d 2) barSem 1#32
  semWaitWord barSem 3#32
/-- Load half `h` of the device's rows of the input. -/
def loadX (M : Memref sig .tc .vmem S256x256 .bf16) (h : Fin 2) : Pg F (FVec F S128x256 .bf16) := do
  let v : Vec F S128x256 .bf16 ← Prog.lift (.load M (rH h).toLoadRect (View.loadsAt_vmem h_S128x256))
  pure (k0_pay7 v)
/-- Send half `h` of the own rows of layer `l` to the device `j + 1` after. -/
def sendX (l : Fin 3) (h : Fin 2) (j : Fin 3) : Pg F PUnit :=
  Prog.lift (.enqueueDma ((XM l).slice (rT d h) (fun _ => rfl)) (.remote (Dev.tc (devX d j)) ((XM l).slice (rT d h) (fun _ => rfl)) (.dma (outSem (rowX l) (pl j h)))) (.dma (inSem (rowX l) (pl j h)))
    ((XM_whole l).wordExact_slice rfl _ (k0_off2_wordsbf16 d h)) ((XM_whole l).wordExact_slice rfl _ (k0_off2_wordsbf16 d h)) ⟨⟨rfl, Or.inl rfl⟩, trivial⟩)
/-- Compute the device's part for the rows `x`, with its weights of layer `l`. -/
def part (l : Fin 3) (x : FVec F S128x256 .bf16) : Pg F (FVec F S128x256 .f32) := do
  let u : Vec F S1x256x512 .bf16 ← Prog.lift (.load UM (rU l).toLoadRect (View.loadsAt_vmem h_S1x256x512))
  let w : Vec F S1x512x256 .bf16 ← Prog.lift (.load DM (rD l).toLoadRect (View.loadsAt_vmem h_S1x512x256))
  pure (mlp x u w)
/-- Store half `h` of the own rows of layer `l`, send them to the three peers, and compute their own part. -/
def spread (l : Fin 3) (h : Fin 2) (x : FVec F S128x256 .bf16) : Pg F (FVec F S128x256 .f32) := do
  let _ ← Prog.lift (.load (XM l) (rO d h).toLoadRect (View.loadsAt_vmem h_S128x256))
  Prog.lift (.store (XM l) (rO d h) (k0_pay7 x) Finset.univ (View.stores_vmem h_S128x256 ((XM_whole l).storeExact_slice rfl _ (k0_off1_packedbf16 d h)) (fun _ => rfl)) (.inl rfl))
  sendX d l h 0
  sendX d l h 1
  sendX d l h 2
  part l x
/-- The memref of slot `b` of layer `l` in a buffer of slots. -/
abbrev slotM (M : Memref sig .tc .vmem S3x6x128x256 .bf16) (l : Fin 3) (b : Fin 6) : Memref sig .tc .vmem S128x256 .bf16 :=
  (M.slice (rP l b) (fun _ => rfl)).squeeze S128x256 squeezes_S1x1x128x256_S128x256
/-- Wait for half `h` of the rows of layer `l` of the device `j + 1` before. -/
def waitX (l : Fin 3) (j : Fin 3) (h : Fin 2) : Pg F PUnit :=
  Prog.lift (.waitDma2 (inSem (rowX l) (pl j h)) ((XM l).slice (rT d h) (fun _ => rfl)) ((XM l).slice (rT d h) (fun _ => rfl))
    ((XM_whole l).wordExact_slice rfl _ (k0_off2_wordsbf16 d h)) ((XM_whole l).wordExact_slice rfl _ (k0_off2_wordsbf16 d h)))
/-- Send the part in slot `(j, h)` of layer `l` to the device `j + 1` after. -/
def sendP (l : Fin 3) (j : Fin 3) (h : Fin 2) : Pg F PUnit :=
  Prog.lift (.enqueueDma (slotM SM l (pl j h)) (.remote (Dev.tc (devP d j)) (slotM RM l (pl j h)) (.dma (outSem (rowP l) (pl j h)))) (.dma (inSem (rowP l) (pl j h)))
    ((SM_whole.wordExact_slice rfl _ (wordsP l _)).reshape _ _) ((RM_whole.wordExact_slice rfl _ (wordsP l _)).reshape _ _) ⟨⟨rfl, Or.inl rfl⟩, trivial⟩)
/-- Wait for half `h` of the rows of the device `j + 1` before, compute the part for them and send it back: to the device
    `3 - j` after. -/
def serve (l : Fin 3) (j : Fin 3) (h : Fin 2) : Pg F PUnit := do
  waitX d l j h
  let x : Vec F S128x256 .bf16 ← Prog.lift (.load (XM l) (rF d j h).toLoadRect (View.loadsAt_vmem h_S128x256))
  let p ← part l x
  let _ ← Prog.lift (.load SM (rP l (pl j.rev h)).toLoadRect (View.loadsAt_vmem h_S1x1x128x256))
  Prog.lift (.store SM (rP l (pl j.rev h)) (slot (trunc p)) Finset.univ (View.stores_vmem h_S1x1x128x256 (SM_whole.storeExact_slice rfl _ (packP l _)) (fun _ => rfl)) (.inl rfl))
  sendP d l j.rev h
/-- Wait for the part in slot `(j, h)` of layer `l`, and add it on. -/
def takeP (l : Fin 3) (h : Fin 2) (j : Fin 3) (p : FVec F S128x256 .f32) : Pg F (FVec F S128x256 .f32) := do
  Prog.lift (.waitDma2 (inSem (rowP l) (pl j h)) (slotM SM l (pl j h)) (slotM RM l (pl j h))
    ((SM_whole.wordExact_slice rfl _ (wordsP l _)).reshape _ _) ((RM_whole.wordExact_slice rfl _ (wordsP l _)).reshape _ _))
  let r : Vec F S1x1x128x256 .bf16 ← Prog.lift (.load RM (rP l (pl j h)).toLoadRect (View.loadsAt_vmem h_S1x1x128x256))
  pure (addIn p r)
/-- The sum of the four parts of half `h` of layer `l`. -/
def total (l : Fin 3) (h : Fin 2) (p : FVec F S128x256 .f32) : Pg F (FVec F S128x256 .f32) := do
  let p ← takeP l h 2 p
  let p ← takeP l h 0 p
  takeP l h 1 p
/-- A layer's six services, in the kernel's order. -/
def serves (l : Fin 3) : Pg F PUnit := do
  serve d l 0 0
  serve d l 2 0
  serve d l 0 1
  serve d l 2 1
  serve d l 1 0
  serve d l 1 1
/-- Store half `h` of the result. -/
def putOut (M : Memref sig .tc .vmem S256x256 .f32) (h : Fin 2) (p : FVec F S128x256 .f32) : Pg F PUnit := do
  let _ ← Prog.lift (.load M (rH h).toLoadRect (View.loadsAt_vmem h_S128x256))
  Prog.lift (.store M (rH h) p Finset.univ (View.stores_vmem_bits_univ h_S128x256 rfl) (.inl rfl))
/-- Wait for the read-out of half `h` of the own rows of layer `l` sent to the device `j + 1` after. -/
def doneX (l : Fin 3) (h : Fin 2) (j : Fin 3) : Pg F PUnit :=
  Prog.lift (.waitDma2 (outSem (rowX l) (pl j h)) ((XM l).slice (rT d h) (fun _ => rfl)) ((XM l).slice (rT d h) (fun _ => rfl))
    ((XM_whole l).wordExact_slice rfl _ (k0_off2_wordsbf16 d h)) ((XM_whole l).wordExact_slice rfl _ (k0_off2_wordsbf16 d h)))
/-- Wait for the read-out of the part in slot `(j, h)` of layer `l`. -/
def doneP (l : Fin 3) (j : Fin 3) (h : Fin 2) : Pg F PUnit :=
  Prog.lift (.waitDma2 (outSem (rowP l) (pl j h)) (slotM RM l (pl j h)) (slotM SM l (pl j h))
    ((RM_whole.wordExact_slice rfl _ (wordsP l _)).reshape _ _) ((SM_whole.wordExact_slice rfl _ (wordsP l _)).reshape _ _))
/-- Wait for all the read-outs of a layer. -/
def dones (l : Fin 3) : Pg F PUnit := do
  doneX d l 0 0
  doneX d l 0 1
  doneX d l 0 2
  doneX d l 1 0
  doneX d l 1 1
  doneX d l 1 2
  doneP l 2 0
  doneP l 0 0
  doneP l 2 1
  doneP l 0 1
  doneP l 1 0
  doneP l 1 1
end Pieces

/-- The kernel's run, folded up. -/
def run (x : Memref sig .tc .vmem S256x256 .bf16) (u0 : Memref sig .tc .vmem S256x512 .bf16) (w0 : Memref sig .tc .vmem S512x256 .bf16)
    (u1 : Memref sig .tc .vmem S256x512 .bf16) (w1 : Memref sig .tc .vmem S512x256 .bf16) (u2 : Memref sig .tc .vmem S256x512 .bf16)
    (w2 : Memref sig .tc .vmem S512x256 .bf16) (o : Memref sig .tc .vmem S256x256 .f32) : Pg F PUnit := do
  let d ← Prog.lift .deviceId
  putU 0 u0
  putD 0 w0
  putU 1 u1
  putD 1 w1
  putU 2 u2
  putD 2 w2
  meet d
  let x0 ← loadX x 0
  let p00 ← spread d 0 0 x0
  let x1 ← loadX x 1
  let p01 ← spread d 0 1 x1
  serves d 0
  let t00 ← total 0 0 p00
  let p10 ← spread d 1 0 (trunc t00)
  let t01 ← total 0 1 p01
  let p11 ← spread d 1 1 (trunc t01)
  serves d 1
  let t10 ← total 1 0 p10
  let p20 ← spread d 2 0 (trunc t10)
  let t11 ← total 1 1 p11
  let p21 ← spread d 2 1 (trunc t11)
  serves d 2
  let t20 ← total 2 0 p20
  putOut o 0 t20
  let t21 ← total 2 1 p21
  putOut o 1 t21
  dones d 0
  dones d 1
  dones d 2

end Cert.KernelIdeal.Mlp

end
-- ==== Proof.Protocol.lean ====
/-
  Who sends what to whom. The transfers of the kernel are indexed by `T`: whether it carries a part (or activations), the
  layer, the place `j` (the receiver is the device `j + 1` after the sender) and the half of the rows. Every device has,
  for each transfer, a cell for its read-out and a cell for its landing, and one cell on which the devices meet; each cell
  has one round. Here are the values that travel, the cells, what each credit hands over, what each device owes at launch
  and the levels under which no wait can close a circle.
-/
module

public import proofs.«01_k».proof.Proof.Program
public import proofs.«01_k».proof.Proof.Gen.KernelIdeal.Frame
public import Idealize.ShloMosaic.Lib.Pipeline.Launch
public import Idealize.ShloMosaic.Lib.Pipeline.BigSepL
public import Mathlib.Data.Fintype.Option

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, and the kernel's own (a meeting has three duties) -/

abbrev UT : Type := URounds (GSem nD τ sig) (Fin 3)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

set_option backward.proofsInPublic true in
/-- The device `j + 1` after, -/
def aft (c : Dev nD) (j : Fin 3) : Dev nD := ⟨(c.val + j.val + 1) % 4, Nat.mod_lt _ (by decide)⟩
set_option backward.proofsInPublic true in
/-- and the device `j + 1` before. -/
def bef (c : Dev nD) (j : Fin 3) : Dev nD := ⟨(c.val + 3 - j.val) % 4, Nat.mod_lt _ (by decide)⟩

theorem bef_aft : ∀ (c : Dev nD) (j : Fin 3), bef (aft c j) j = c := by decide
theorem aft_bef : ∀ (c : Dev nD) (j : Fin 3), aft (bef c j) j = c := by decide
theorem aft_rev : ∀ (c : Dev nD) (j : Fin 3), aft c j.rev = bef c j := by decide
theorem aft_aft_rev : ∀ (c : Dev nD) (j : Fin 3), aft (aft c j) j.rev = c := by decide
theorem devB_eq : ∀ (c : Dev nD) (j : Fin 3), devB c j = aft c j := by decide +kernel
theorem devX_eq : ∀ (c : Dev nD) (j : Fin 3), devX c j = aft c j := by decide +kernel
theorem devP_eq : ∀ (c : Dev nD) (j : Fin 3), devP c j = aft c j := by decide +kernel

/-- The step of `j + 1` devices, as a permutation of them. -/
def turn (j : Fin 3) : Dev nD ≃ Dev nD := ⟨fun c => aft c j, fun c => bef c j, fun c => bef_aft c j, fun c => aft_bef c j⟩

/-! ## Transfers -/

/-- A transfer: whether it carries a part, its layer, its place and its half. -/
abbrev T : Type := Bool × Fin 3 × Fin 3 × Fin 2

/-- The row of a transfer's semaphores, -/
def rowT (t : T) : Fin 6 := if t.1 then rowP t.2.1 else rowX t.2.1
/-- and their place in it. -/
def plT (t : T) : Fin 6 := pl t.2.2.1 t.2.2.2
/-- The semaphore of a transfer's read-out, -/
abbrev outS (t : T) : DmaSem sig := outSem (rowT t) (plT t)
/-- and of its landing. -/
abbrev inS (t : T) : DmaSem sig := inSem (rowT t) (plT t)

/-- Where transfer `t` of device `s` is read on `s`, -/
def sM (t : T) (s : Dev nD) : Memref sig .tc .vmem S128x256 .bf16 :=
  match t with
  | (false, l, _, h) => (XM l).slice (rT s h) (fun _ => rfl)
  | (true, l, j, h) => slotM SM l (pl j h)
/-- and where it lands on its receiver. -/
def dM (t : T) (s : Dev nD) : Memref sig .tc .vmem S128x256 .bf16 :=
  match t with
  | (false, l, _, h) => (XM l).slice (rT s h) (fun _ => rfl)
  | (true, l, j, h) => slotM RM l (pl j h)

/-! ## What travels -/

/-- A device's rows of the input, as staged. -/
def xin (c : Dev nD) : Vec F S256x256 .bf16 := iblk m c (0 : Fin 8) t0_0
/-- A device's columns of a layer's first weights, -/
def uin (c : Dev nD) : Fin 3 → Vec F S256x512 .bf16
  | 0 => iblk m c (1 : Fin 8) t0_0
  | 1 => iblk m c (3 : Fin 8) t0_0
  | 2 => iblk m c (5 : Fin 8) t0_0
/-- and its rows of the second. -/
def win (c : Dev nD) : Fin 3 → Vec F S512x256 .bf16
  | 0 => iblk m c (2 : Fin 8) t0_0
  | 1 => iblk m c (4 : Fin 8) t0_0
  | 2 => iblk m c (6 : Fin 8) t0_0

/-- Half `h` of a device's rows of the input. -/
def xrow (c : Dev nD) (h : Fin 2) : FVec F S128x256 .bf16 :=
  (Memref.whole cc0_stg0_0 : Memref sig .tc .vmem S256x256 .bf16).view.readAt (Elt F) (rH h).toLoadRect (xin m c)
/-- Device `d`'s part of the product for half `h` of the rows `X c` of device `c`. -/
def partOf (l : Fin 3) (X : Dev nD → Fin 2 → FVec F S128x256 .bf16) (c d : Dev nD) (h : Fin 2) : FVec F S128x256 .f32 :=
  mlp (X c h) (k0_pay1 (uin m d l)) (k0_pay2 (win m d l))
/-- The sum of the four parts, in the order in which the kernel adds them. -/
def sumOf (l : Fin 3) (X : Dev nD → Fin 2 → FVec F S128x256 .bf16) (c : Dev nD) (h : Fin 2) : FVec F S128x256 .f32 :=
  addIn (addIn (addIn (partOf m l X c c h) (slot (trunc (partOf m l X c (bef c 2) h)))) (slot (trunc (partOf m l X c (bef c 0) h))))
    (slot (trunc (partOf m l X c (bef c 1) h)))
/-- The rows of device `c` that enter layer `l`. -/
def xv : Fin 3 → Dev nD → Fin 2 → FVec F S128x256 .bf16
  | 0 => xrow m
  | 1 => fun c h => trunc (sumOf m 0 (xrow m) c h)
  | 2 => fun c h => trunc (sumOf m 1 (fun c h => trunc (sumOf m 0 (xrow m) c h)) c h)
/-- The part of device `d` in layer `l` for the rows of device `c`. -/
def prt (l : Fin 3) (c d : Dev nD) (h : Fin 2) : FVec F S128x256 .f32 := partOf m l (xv m l) c d h
/-- The sum of the four. -/
def tot (l : Fin 3) (c : Dev nD) (h : Fin 2) : FVec F S128x256 .f32 := sumOf m l (xv m l) c h
/-- What transfer `t` of device `s` carries. -/
def wire (t : T) (s : Dev nD) : FVec F S128x256 .bf16 :=
  match t with
  | (false, l, _, h) => xv m l s h
  | (true, l, j, h) => trunc (prt m l (aft s j) s h)

/-! ## Cells -/

/-- A device's cells: the meeting's (`none`), and each transfer's read-out (`false`) and landing (`true`). -/
abbrev Cl : Type := Option (Bool × T)

set_option synthInstance.maxSize 1024 in
instance decEqT : DecidableEq T := inferInstance
set_option synthInstance.maxSize 1024 in
instance decEqCl : DecidableEq Cl := inferInstance

/-- The semaphore of a cell. -/
def csem : Cl → SemLoc sig
  | none => .reg barSem
  | some (false, t) => .dma (outS t)
  | some (true, t) => .dma (inS t)

abbrev barCell (c : Dev nD) : GSem nD τ sig := ((c : Thread nD τ), .reg barSem)
abbrev outCell (c : Dev nD) (t : T) : GSem nD τ sig := ((c : Thread nD τ), .dma (outS t))
abbrev inCell (c : Dev nD) (t : T) : GSem nD τ sig := ((c : Thread nD τ), .dma (inS t))
abbrev kcell (ck : Dev nD × Cl) : GSem nD τ sig := ((ck.1 : Thread nD τ), csem ck.2)

/-- The transfer whose semaphore has place `n` in its bank. -/
def decT (n : ℕ) : T := (n / 6 % 2 == 1, ⟨n / 12 % 3, Nat.mod_lt _ (by decide)⟩, ⟨n % 6 / 2, by omega⟩, ⟨n % 2, by omega⟩)
/-- Which cell a semaphore is. -/
def decode : SemLoc sig → Option Cl
  | .reg _ => some none
  | .dma q => if q.val < 8 then none else if q.val < 44 then some (some (false, decT (q.val - 8))) else some (some (true, decT (q.val - 44)))

theorem decode_csem : ∀ k : Cl, decode (csem k) = some k
  | none => rfl
  | some (b, t) => by
    revert t; cases b <;> decide +kernel
theorem decode_bar : decode (.reg barSem) = some none := decode_csem none
theorem decode_out (t : T) : decode (.dma (outS t)) = some (some (false, t)) := decode_csem (some (false, t))
theorem decode_in (t : T) : decode (.dma (inS t)) = some (some (true, t)) := decode_csem (some (true, t))

theorem csem_injective : Function.Injective csem := fun a b h => by
  have := congrArg decode h
  rw [decode_csem, decode_csem] at this
  exact Option.some.inj this
theorem kcell_injective : Function.Injective (kcell : Dev nD × Cl → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- What a transfer of 128 rows credits. -/
abbrev N : ℕ := (dM (false, 0, 0, 0) 0).view.dmaCredit
theorem N_pos : 0 < N := View.dmaCredit_pos _ (by decide)
theorem N_d (t : T) (s : Dev nD) : (dM t s).view.dmaCredit = N := by
  obtain ⟨p, l, j, h⟩ := t
  cases p <;> fin_cases l <;> rfl
theorem N_s (t : T) (s : Dev nD) : (sM t s).view.dmaCredit = N := by
  obtain ⟨p, l, j, h⟩ := t
  cases p <;> fin_cases l <;> rfl

/-! ## What the credits hand over -/

/-- A block of a buffer, at whatever it holds; -/
def room {s : Shape} {e : EltTy} (V : View sig .tc .vmem s e) (c : Dev nD) : sProp 𝕄 :=
  iprop(∃ f : Buf (Elt F) (V.loc (c : Thread nD τ)), V.loc (c : Thread nD τ) ↦[V.set]{fullShare} f)
/-- a share of a block that reads `v`. -/
def held {s : Shape} {e : EltTy} (V : View sig .tc .vmem s e) (c : Dev nD) (q : PosShare TreeShare) (v : Vec F s e) : sProp 𝕄 :=
  iprop(∃ f : Buf (Elt F) (V.loc (c : Thread nD τ)), ⌜V.read (Elt F) f = v⌝ ∗ V.loc (c : Thread nD τ) ↦[V.set]{q} f)

instance room_storable {s : Shape} {e : EltTy} (V : View sig .tc .vmem s e) (c : Dev nD) : BI.Storable (upEmb : UEmb _ 𝕄) (room (F := F) V c) := by
  unfold room; infer_instance
instance held_storable {s : Shape} {e : EltTy} (V : View sig .tc .vmem s e) (c : Dev nD) (q) (v) : BI.Storable (upEmb : UEmb _ 𝕄) (held (F := F) V c q v) := by
  unfold held; infer_instance

/-- The three shares in which a device lends its rows to its three transfers of them. -/
def third : Fin 3 → PosShare TreeShare
  | 0 => fullShare.left
  | 1 => fullShare.right.left
  | 2 => fullShare.right.right
/-- The share a transfer reads its source with. -/
def shr (t : T) : PosShare TreeShare := if t.1 then fullShare else third t.2.2.1

/-- What a device told by the device `j + 1` after it may write there: the places where its transfers of place `j` land. -/
def barPay (c : Dev nD) (j : Fin 3) : sProp 𝕄 :=
  bigSep Finset.univ fun k : Bool × Fin 3 × Fin 2 => room (dM (k.1, k.2.1, j, k.2.2) c).view (aft c j)
/-- What a landing hands its receiver: the block, as sent. -/
def inPay (c : Dev nD) (t : T) : sProp 𝕄 := held (dM t (bef c t.2.2.1)).view c fullShare (wire m t (bef c t.2.2.1))
/-- What a read-out hands its sender: the source back. -/
def outPay (c : Dev nD) (t : T) : sProp 𝕄 := held (sM t c).view c (shr t) (wire m t c)

/-- The schedule: one round, of three duties on a meeting's cell and of one on every transfer's. -/
def sched : Rounds.Schedule (GSem nD τ sig) (Fin 3) 𝕄 where
  duties g r := if r = 0 ∧ g.1.2 = .tc then (match decode g.2 with | some none => Finset.univ | some (some _) => {0} | none => ∅) else ∅
  unitless _ := False
  amount g _ _ := match decode g.2 with | some none => 1 | _ => N
  payload g _ d := match decode g.2 with
    | some none => barPay g.1.1 d
    | some (some (false, t)) => outPay m g.1.1 t
    | some (some (true, t)) => inPay m g.1.1 t
    | none => iprop(emp)
  amount_pos g _ _ _ := by
    show 0 < (match decode g.2 with | some none => 1 | _ => N : ℕ)
    split
    · exact Nat.one_pos
    · exact N_pos

instance sched_payload_storable (g : GSem nD τ sig) (r : ℕ) (d : Fin 3) :
    BI.Storable (upEmb : UEmb _ 𝕄) ((sched (F := F) m).payload g r d) := by
  dsimp only [sched]
  unfold barPay outPay inPay
  split <;> infer_instance

section Sched
variable (c : Dev nD) (t : T)

theorem duties_bar : (sched (F := F) m).duties (barCell c) 0 = Finset.univ := by
  dsimp only [sched]; rw [if_pos ⟨rfl, rfl⟩, decode_bar]
theorem duties_out : (sched (F := F) m).duties (outCell c t) 0 = {0} := by
  dsimp only [sched]; rw [if_pos ⟨rfl, rfl⟩, decode_out]
theorem duties_in : (sched (F := F) m).duties (inCell c t) 0 = {0} := by
  dsimp only [sched]; rw [if_pos ⟨rfl, rfl⟩, decode_in]
/-- After round 0 no cell has a duty. -/
theorem duties_later (g : GSem nD τ sig) : ∀ r, 1 ≤ r → (sched (F := F) m).duties g r = ∅ :=
  fun r hr => by dsimp only [sched]; exact if_neg fun h => by omega

theorem amount_bar (d : Fin 3) : (sched (F := F) m).amount (barCell c) 0 d = 1 := by dsimp only [sched]; rw [decode_bar]
theorem amount_out (d : Fin 3) : (sched (F := F) m).amount (outCell c t) 0 d = N := by dsimp only [sched]; rw [decode_out]
theorem amount_in (d : Fin 3) : (sched (F := F) m).amount (inCell c t) 0 d = N := by dsimp only [sched]; rw [decode_in]

theorem expect_bar : (sched (F := F) m).expect (barCell c) 0 = 3 := by
  unfold Schedule.expect Schedule.amountOf
  rw [duties_bar, Finset.sum_congr rfl fun d _ => amount_bar m c d]; rfl
theorem expect_out : (sched (F := F) m).expect (outCell c t) 0 = N := by
  unfold Schedule.expect Schedule.amountOf; rw [duties_out, Finset.sum_singleton, amount_out]
theorem expect_in : (sched (F := F) m).expect (inCell c t) 0 = N := by
  unfold Schedule.expect Schedule.amountOf; rw [duties_in, Finset.sum_singleton, amount_in]

theorem payload_bar (d : Fin 3) : (sched (F := F) m).payload (barCell c) 0 d = barPay c d := by dsimp only [sched]; rw [decode_bar]
theorem payload_out (d : Fin 3) : (sched (F := F) m).payload (outCell c t) 0 d = outPay m c t := by dsimp only [sched]; rw [decode_out]
theorem payload_in (d : Fin 3) : (sched (F := F) m).payload (inCell c t) 0 d = inPay m c t := by dsimp only [sched]; rw [decode_in]

theorem rest_bar : bigSep ((sched (F := F) m).duties (barCell c) 0 \ ∅) (fun d => (sched (F := F) m).payload (barCell c) 0 d)
    = bigSep Finset.univ fun d : Fin 3 => (barPay c d : sProp 𝕄) := by
  rw [Finset.sdiff_empty, duties_bar]; exact bigSep_congr fun d _ => payload_bar m c d
theorem rest_out : bigSep ((sched (F := F) m).duties (outCell c t) 0 \ ∅) (fun d => (sched (F := F) m).payload (outCell c t) 0 d) = outPay m c t := by
  rw [Finset.sdiff_empty, duties_out, bigSep_singleton, payload_out]
theorem rest_in : bigSep ((sched (F := F) m).duties (inCell c t) 0 \ ∅) (fun d => (sched (F := F) m).payload (inCell c t) 0 d) = inPay m c t := by
  rw [Finset.sdiff_empty, duties_in, bigSep_singleton, payload_in]
end Sched

/-! ## Order, debts and levels -/

/-- The sends of half `h` of the rows entering layer `l`, in order, -/
def xs (l : Fin 3) (h : Fin 2) : List T := [(false, l, 0, h), (false, l, 1, h), (false, l, 2, h)]
/-- the sends of the parts of layer `l`, -/
def ps (l : Fin 3) : List T := [(true, l, 2, 0), (true, l, 0, 0), (true, l, 2, 1), (true, l, 0, 1), (true, l, 1, 0), (true, l, 1, 1)]
/-- and all of them, layer by layer. -/
def sends : List T := xs 0 0 ++ (xs 0 1 ++ (ps 0 ++ (xs 1 0 ++ (xs 1 1 ++ (ps 1 ++ (xs 2 0 ++ (xs 2 1 ++ (ps 2 ++ []))))))))

theorem sends_all : (Finset.univ : Finset T) = sends.toFinset := by decide +kernel
theorem sends_nodup : sends.Nodup := by decide +kernel

/-- What device `c` owes while it has the transfers `l` still to send: each landing's credit. -/
def owedL (c : Dev nD) : List T → CellTallies nD τ sig Unit
  | [] => 0
  | t :: l => owedL c l + tallyAt (inCell (aft c t.2.2.1) t) () N

/-- At launch: all the landings, and a unit to each peer's meeting. -/
def O₀ (c : Dev nD) : CellTallies nD τ sig Unit :=
  owedL c sends + tallyAt (barCell (aft c 2)) () 1 + tallyAt (barCell (aft c 1)) () 1 + tallyAt (barCell (aft c 0)) () 1

/-- The level of a transfer's landing: the activations of a layer, then its parts, then the next layer. -/
def lvT (t : T) : ℕ := 2 * t.2.1.val + 2 + (if t.1 then 1 else 0)
/-- Every TensorCore cell has the one index levelled; -/
def L (g : GSem nD τ sig) : Finset Unit := if g.1.2 = .tc then {()} else ∅
/-- the meeting at 1, the landings above it, all else at 0. -/
def lv (g : GSem nD τ sig) (_ : Unit) : ℕ := match decode g.2 with
  | some none => 1
  | some (some (true, t)) => lvT t
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [decode_bar]
theorem lv_out (c : Dev nD) (t : T) (u : Unit) : lv (outCell c t) u = 0 := by unfold lv; rw [decode_out]
theorem lv_in (c : Dev nD) (t : T) (u : Unit) : lv (inCell c t) u = lvT t := by unfold lv; rw [decode_in]

/-- What is owed is owed to the landing of a transfer still to send. -/
theorem owedL_pos {c : Dev nD} {l : List T} {g : GSem nD τ sig} {u : Unit} (h : 0 < owedL c l g u) :
    ∃ t ∈ l, g = inCell (aft c t.2.2.1) t := by
  induction l with
  | nil => exact absurd h (Nat.lt_irrefl 0)
  | cons t l ih =>
    unfold owedL at h
    rw [Pi.add_apply, Finsupp.add_apply, tallyAt_apply] at h
    by_cases hg : g = inCell (aft c t.2.2.1) t
    · exact ⟨t, List.mem_cons_self .., hg⟩
    · rw [if_neg fun h' => hg h'.1, Nat.add_zero] at h
      obtain ⟨t', ht', e⟩ := ih h
      exact ⟨t', List.mem_cons_of_mem _ ht', e⟩

/-- What is owed at launch is owed to a landing or to a meeting. -/
theorem O₀_pos {c : Dev nD} {g : GSem nD τ sig} {u : Unit} (h : 0 < O₀ c g u) :
    (∃ t ∈ sends, g = inCell (aft c t.2.2.1) t) ∨ ∃ j, g = barCell (aft c j) := by
  unfold O₀ at h
  rw [Pi.add_apply, Finsupp.add_apply, Pi.add_apply, Finsupp.add_apply, Pi.add_apply, Finsupp.add_apply, tallyAt_apply, tallyAt_apply, tallyAt_apply] at h
  by_cases h0 : g = barCell (aft c 0)
  · exact .inr ⟨0, h0⟩
  by_cases h1 : g = barCell (aft c 1)
  · exact .inr ⟨1, h1⟩
  by_cases h2 : g = barCell (aft c 2)
  · exact .inr ⟨2, h2⟩
  rw [if_neg fun h' => h2 h'.1, if_neg fun h' => h1 h'.1, if_neg fun h' => h0 h'.1] at h
  simp only [Nat.add_zero] at h
  exact .inl (owedL_pos h)

/-- A wait is allowed at a cell below all the landings still owed. -/
theorem mayWait_of (c : Dev nD) (sm : SemLoc sig) (l : List T) (hl : ∀ t ∈ l, lv ((c : Thread nD τ), sm) () < lvT t) :
    (levAts L lv : sProp 𝕄) ⊢ MayWait (c : Thread nD τ) sm () (owedL c l) :=
  MayOwe.of_cut (L := L) (lev := lv) (lv ((c : Thread nD τ), sm) ()) (fun p hp => by rw [Finset.mem_singleton.mp hp, L_tc]; exact Finset.mem_singleton_self _)
    (fun g u hg => by obtain ⟨t, -, rfl⟩ := owedL_pos hg; rw [L_tc]; exact Finset.mem_singleton_self _)
    (fun p hp => by rw [Finset.mem_singleton.mp hp])
    (fun g u hg => by obtain ⟨t, ht, rfl⟩ := owedL_pos hg; rw [lv_in]; exact hl t ht)

/-- A wait at a cell of level 0 is allowed at launch, or owing nothing. -/
theorem mayWait_stage (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact hs.le) (fun g u hg => ?_)
    · rcases O₀_pos hg with ⟨t, -, rfl⟩ | ⟨j, rfl⟩ <;> (rw [L_tc]; exact Finset.mem_singleton_self _)
    · rcases O₀_pos hg with ⟨t, -, rfl⟩ | ⟨j, rfl⟩
      · rw [lv_in]; unfold lvT; omega
      · rw [lv_bar]; exact Nat.one_pos
  · rw [MayWait_zero]; iintro -; iempintro

end Cert.KernelIdeal.Mlp

end
-- ==== Proof.Steps.lean ====
/-
  The kernel's effects one by one, against the protocol: a load of a block held, a store into a block, a transfer sent, a
  landing waited for, a read-out waited for. Each is stated once, for any transfer.
-/
module

public import proofs.«01_k».proof.Proof.Protocol
public import Idealize.ShloMosaic.Lib.Pipeline.Value

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Core `c`'s weakest precondition. -/
abbrev WP {α : Type} (c : Dev nD) (e : Pg F α) (Q : α → sProp 𝕄) : sProp 𝕄 := wp frame (wpE (defs₀ (F := F)) 𝒱₀ (c : Thread nD τ) none) Set.univ e Q

/-! ## Blocks -/

/-- Slices at equal offsets are equal, whatever their evidence. -/
theorem access_congr {s : Shape} {e : EltTy} (M : Memref sig .tc .vmem s e) {off off' size : Fin s.rank → Nat} (h : off = off')
    (p : ∀ i, off i + size i ≤ s.size i) (p' : ∀ i, off' i + size i ≤ s.size i) :
    M.access (Rect.unit off size p) = M.access (Rect.unit off' size p') := by
  subst h; rfl

/-- The transfers and the stores address a device's own rows alike, -/
theorem off_O_T (d : Dev nD) (h : Fin 2) : k0_off1 d (BitVec.ofNat 32 (128 * h.val)) = k0_off2 d (BitVec.ofNat 32 (128 * h.val)) :=
  (k0_off1_eq d h).trans (k0_off2_eq d h).symm
/-- and the loads another's. -/
theorem off_F_T : ∀ (d : Dev nD) (j : Fin 3) (h : Fin 2), k0_off3 d (BitVec.ofNat 32 (1 + j.val)) (BitVec.ofNat 32 (128 * h.val)) = k0_off2 (bef d j) (BitVec.ofNat 32 (128 * h.val)) := by
  decide +kernel

theorem access_O (M : Memref sig .tc .vmem S1024x256 .bf16) (d : Dev nD) (h : Fin 2) : M.access (rO d h) = M.access (rT d h) :=
  access_congr M (off_O_T d h) _ _
theorem access_F (M : Memref sig .tc .vmem S1024x256 .bf16) (d : Dev nD) (j : Fin 3) (h : Fin 2) : M.access (rF d j h) = M.access (rT (bef d j) h) :=
  access_congr M (off_F_T d j h) _ _

theorem held_room {s : Shape} {e : EltTy} (V : View sig .tc .vmem s e) (c : Dev nD) (v : Vec F s e) : held V c fullShare v ⊢ room (F := F) V c := by
  unfold held room
  iintro ⟨%f, -, H⟩; iexists f; iexact H

/-- A slot read through its squeezed view. -/
theorem held_slot_in (V : View sig .tc .vmem S1x1x128x256 .bf16) (h : S128x256.numel = S1x1x128x256.numel) (c : Dev nD) (q) (v : FVec F S128x256 .bf16) :
    held V c q (slot v) ⊢ held (V.reshape S128x256 h) c q v := by
  unfold held
  iintro ⟨%f, %hf, H⟩
  iexists f
  isplitr
  · ipureintro
    show shapeCast S128x256 (V.read (Elt F) f) h = v
    rw [hf]; exact shapeCast_shapeCast v _ _
  · rw [View.set_reshape]; iexact H
theorem held_slot_out (V : View sig .tc .vmem S1x1x128x256 .bf16) (h : S128x256.numel = S1x1x128x256.numel) (c : Dev nD) (q) (v : FVec F S128x256 .bf16) :
    held (V.reshape S128x256 h) c q v ⊢ held V c q (slot v) := by
  unfold held
  iintro ⟨%f, %hf, H⟩
  iexists f
  isplitr
  · ipureintro
    have hf' : shapeCast S128x256 (V.read (Elt F) f) h = v := hf
    rw [← hf']; exact (shapeCast_shapeCast (V.read (Elt F) f) _ _).symm
  · rw [View.set_reshape]; iexact H
theorem room_slot (V : View sig .tc .vmem S1x1x128x256 .bf16) (h : S128x256.numel = S1x1x128x256.numel) (c : Dev nD) :
    room (F := F) (V.reshape S128x256 h) c = room V c := by
  unfold room; rw [View.set_reshape]

/-! ## Loads and stores -/

section Mem
variable {s : Shape} {e : EltTy} {M : Memref sig .tc .vmem s e} {r : Rect s} {c : Dev nD} {α : Type} {Q : α → sProp (MT nD τ sig Unit (Elt F) ℕ UU ℕ)}

/-- A load of a block that is held reads what it holds. -/
theorem wp_load_held {hl : M.view.LoadsAt r.toLoadRect} {k : (r.shape.Idx → Elt F e) → Pg F α} {q : PosShare TreeShare} {v : Vec F r.shape e} :
    held (M.access r) c q v ⊢ iprop((held (M.access r) c q v -∗ WP c (k v) Q) -∗ WP c (.op (.load M r.toLoadRect hl) k) Q) := by
  unfold held
  iintro ⟨%f, %hf, H⟩ Hk
  iapply (wp_load_rect 𝒱₀ (c : Thread nD τ) none Set.univ (m := M) (r := r) (S := (M.access r).set) (subset_refl _)) $$ H
  iintro H
  rw [hf]
  iapply Hk
  iexists f
  isplitr; · (ipureintro; exact hf)
  iexact H

/-- A load whose value nothing reads. -/
theorem wp_load_room {hl : M.view.LoadsAt r.toLoadRect} {k : (r.shape.Idx → Elt F e) → Pg F α} :
    room (M.access r) c ⊢ iprop((∀ v, room (M.access r) c -∗ WP c (k v) Q) -∗ WP c (.op (.load M r.toLoadRect hl) k) Q) := by
  unfold room
  iintro ⟨%f, H⟩ Hk
  iapply (wp_load_rect 𝒱₀ (c : Thread nD τ) none Set.univ (m := M) (r := r) (S := (M.access r).set) (subset_refl _)) $$ H
  iintro H
  iapply Hk
  iexists f
  iexact H

/-- A store into a block leaves it holding what was stored. -/
theorem wp_store_room {w : r.shape.Idx → Elt F e} {hx : (M.access r).Stores Finset.univ} {hm : (Finset.univ : Finset r.shape.Idx) = Finset.univ ∨ ∀ a, r.stride a = 1}
    {k : PUnit → Pg F α} :
    room (M.access r) c ⊢ iprop((held (M.access r) c fullShare w -∗ WP c (k ⟨⟩) Q) -∗ WP c (.op (.store M r w Finset.univ hx hm) k) Q) := by
  unfold room held
  iintro ⟨%f, H⟩ Hk
  iapply (wp_store 𝒱₀ (c : Thread nD τ) none Set.univ (m := M) (r := r) (Mk := Finset.univ) (S := (M.access r).set) (subset_refl _)) $$ H
  iintro H
  iapply Hk
  iexists _
  isplitr
  rotate_left
  · iexact H
  · ipureintro; exact View.read_write_univ _ _
end Mem

/-! ## What every device knows -/

section Known
variable (K : Dev nD × Cl → ℕ)

/-- Every cell's invariant, and that it is at its round. -/
def records : sProp 𝕄 :=
  iprop((bigSep Finset.univ fun ck : Dev nD × Cl => cellInv ER (sched m) (K ck) (kcell ck))
    ∗ bigSep Finset.univ fun ck : Dev nD × Cl => reached ER (kcell ck) 0)
instance records_persistent : BI.Persistent (records (F := F) m K) := by unfold records; infer_instance

theorem inv_at (c : Dev nD) (k : Cl) : records m K ⊢ (cellInv ER (sched m) (K (c, k)) (kcell (c, k)) : sProp 𝕄) :=
  sep_elim_left.trans (bigSep_elim (Finset.mem_univ (c, k)))
theorem reached_at (c : Dev nD) (k : Cl) : records m K ⊢ (reached ER (kcell (c, k)) 0 : sProp 𝕄) :=
  sep_elim_right.trans (bigSep_elim (Finset.mem_univ (c, k)))

/-- The invariants and the levels. -/
def ctx : sProp 𝕄 := iprop(records m K ∗ levAts L lv)
instance ctx_persistent : BI.Persistent (ctx (F := F) m K) := by unfold ctx; infer_instance
end Known

/-! ## The states of a transfer -/

section States
variable (c : Dev nD)

/-- What core `c` owes with the transfers `l` still to send. -/
def debt (l : List T) : sProp 𝕄 := iprop(∃ W, owes (c : Thread nD τ) (owedL c l) W)
/-- The right to send transfer `t`: the tokens of its two duties, and the place where it lands. -/
def toSend (t : T) : sProp 𝕄 :=
  iprop(dutyTok ER (outCell c t) 0 0 ∗ dutyTok ER (inCell (aft c t.2.2.1) t) 0 0 ∗ atPos ER (outCell c t) 0 ∅ 0 ∗ room (dM t c).view (aft c t.2.2.1))
/-- A transfer sent, its read-out not yet waited for; -/
def sent (t : T) : sProp 𝕄 := iprop(cred (tallyAt (outCell c t) () N) ∗ atPos ER (outCell c t) 0 ∅ 0)
/-- waited for, the source back. -/
def back (t : T) : sProp 𝕄 := iprop(outPay m c t ∗ atPos ER (outCell c t) 1 ∅ 0)
/-- The right to wait for the landing of transfer `t`; -/
def toGet (t : T) : sProp 𝕄 := iprop(cred (tallyAt (inCell c t) () N) ∗ atPos ER (inCell c t) 0 ∅ 0)
/-- the landing, waited for. -/
def got (t : T) : sProp 𝕄 := iprop(inPay m c t ∗ atPos ER (inCell c t) 1 ∅ 0)
/-- A core with the transfers `l` still to send. -/
def toGo (l : List T) : sProp 𝕄 := iprop(debt c l ∗ bigSepL l (toSend c))
end States

section Transfers
variable (K : Dev nD × Cl → ℕ) {c : Dev nD} {α : Type} {Q : α → sProp (MT nD τ sig Unit (Elt F) ℕ UU ℕ)}

/-- Sending the next transfer. -/
theorem wp_send_next (t : T) (l : List T) (n : Dev nD) (hn : n = aft c t.2.2.1)
    {hsc : (dM t c : Memref sig (Dev.tc n : Thread nD τ).2.kind .vmem S128x256 .bf16).view.ref.isScScratch = false}
    {hsrc : (sM t c).view.WordExact} {hdst : (dM t c).view.WordExact}
    {hsem : DmaTarget.Typed .vmem (.dma (inS t)) (.remote (Dev.tc n : Thread nD τ) (dM t c) (.dma (outS t)) hsc)}
    {k : PUnit → Pg F α} :
    iprop(ctx m K ∗ held (sM t c).view c (shr t) (wire m t c) ∗ toGo c (t :: l))
      ⊢ iprop(((sent c t ∗ toGo c l) -∗ WP c (k ⟨⟩) Q)
          -∗ WP c (.op (.enqueueDma (sM t c) (.remote (Dev.tc n : Thread nD τ) (dM t c) (.dma (outS t)) hsc) (.dma (inS t)) hsrc hdst hsem) k) Q) := by
  subst hn
  unfold toGo debt ctx held
  rw [bigSepL_cons']
  unfold toSend sent room
  iintro ⟨⟨#HR, -⟩, ⟨%fs, %hfs, Hs⟩, ⟨%W, HO⟩, ⟨Hto, Hti, Hat, ⟨%fd, Hd⟩⟩, Hl⟩ Hk
  iapply (Rounds.wp_send_pointsTo 𝒱₀ ER (sched m) (c : Thread nD τ) none (κ₁ := K (c, some (false, t))) (κ₂ := K (aft c t.2.2.1, some (true, t)))
    (r₁ := 0) (r₂ := 0) (d₁ := 0) (d₂ := 0) (fs := fs) (fd := fd) (q := shr t)
    (by rw [duties_out]; exact Finset.mem_singleton_self _) (by rw [duties_in]; exact Finset.mem_singleton_self _)
    () () N ((View.amount_dma _ _).trans (N_d t c)) (amount_out m c t 0) (amount_in m (aft c t.2.2.1) t 0) (owedL c l) rfl (W := W)
    (by
      rw [payload_out]; unfold outPay held
      iintro H; iexists fs; isplitr; · (ipureintro; exact hfs)
      iexact H)
    (by
      rw [payload_in]; unfold inPay held; rw [bef_aft]
      iintro H; iexists _; isplitr
      rotate_left
      · iexact H
      · ipureintro; rw [View.read_write_univ]; exact hfs)) $$ [Hs Hd HO Hto Hti]
  · isplitr; · iapply (inv_at m K c (some (false, t))); iexact HR
    isplitr; · iapply (inv_at m K (aft c t.2.2.1) (some (true, t))); iexact HR
    isplitl [Hs]; · iexact Hs
    isplitl [Hd]; · iexact Hd
    isplitl [HO]; · iexact HO
    isplitl [Hto]; · iexact Hto
    isplitr; · iapply (reached_at m K c (some (false, t))); iexact HR
    isplitl [Hti]; · iexact Hti
    iapply (reached_at m K (aft c t.2.2.1) (some (true, t))); iexact HR
  iintro ⟨Hc, HO⟩
  iapply Hk
  isplitl [Hc Hat]
  · isplitl [Hc] <;> iassumption
  isplitl [HO]
  · iexists W; iexact HO
  iexact Hl

/-- Waiting for a landing, below all that is still owed. -/
theorem wp_get (t : T) (l : List T) (hl : ∀ t' ∈ l, lvT t < lvT t') {src dst : Memref sig .tc .vmem S128x256 .bf16}
    {h1 : src.view.WordExact} {h2 : dst.view.WordExact} (hN : dst.view.dmaCredit = N) {k : PUnit → Pg F α} :
    iprop(ctx m K ∗ toGet c t ∗ toGo c l)
      ⊢ iprop(((got m c t ∗ toGo c l) -∗ WP c (k ⟨⟩) Q) -∗ WP c (.op (.waitDma2 (inS t) src dst h1 h2) k) Q) := by
  unfold toGo debt ctx toGet got
  iintro ⟨⟨#HR, #Hlev⟩, ⟨Hc, Hat⟩, ⟨%W, HO⟩, Hl⟩ Hk
  iapply (Rounds.wp_wait_rest_token 𝒱₀ ER (sched m) (c : Thread nD τ) none (κ := K (c, some (true, t)))
      (wpE_waitDma2_eq 𝒱₀ (c : Thread nD τ) none Set.univ) (Set.mem_univ _) () (O := owedL c l) (W := W) (R := 0) (m := 0) (T := ∅)
      (by rw [Nat.zero_add, expect_in, hN])) $$ [Hc HO Hat]
  · isplitr; · iapply (inv_at m K c (some (true, t))); iexact HR
    isplitl [Hc]; · rw [hN]; iexact Hc
    isplitl [HO]; · iexact HO
    isplitr; · iapply (mayWait_of c (.dma (inS t)) l (fun t' ht' => by rw [lv_in]; exact hl t' ht')); iexact Hlev
    iexact Hat
  iintro ⟨HO, Hat, -, Hpay⟩
  ihave Hp := (Entails.of_eq (rest_in m c t)) $$ Hpay
  iapply Hk
  isplitl [Hp Hat]
  · isplitl [Hp] <;> iassumption
  isplitl [HO]
  · iexists _; iexact HO
  iexact Hl

/-- Waiting for a read-out, all sent. -/
theorem wp_back (t : T) {src dst : Memref sig .tc .vmem S128x256 .bf16} {h1 : src.view.WordExact} {h2 : dst.view.WordExact}
    (hN : dst.view.dmaCredit = N) {k : PUnit → Pg F α} :
    iprop(ctx m K ∗ sent c t ∗ debt c [])
      ⊢ iprop(((back m c t ∗ debt c []) -∗ WP c (k ⟨⟩) Q) -∗ WP c (.op (.waitDma2 (outS t) src dst h1 h2) k) Q) := by
  unfold debt ctx sent back
  iintro ⟨⟨#HR, #Hlev⟩, ⟨Hc, Hat⟩, ⟨%W, HO⟩⟩ Hk
  iapply (Rounds.wp_wait_rest_token 𝒱₀ ER (sched m) (c : Thread nD τ) none (κ := K (c, some (false, t)))
      (wpE_waitDma2_eq 𝒱₀ (c : Thread nD τ) none Set.univ) (Set.mem_univ _) () (O := owedL c []) (W := W) (R := 0) (m := 0) (T := ∅)
      (by rw [Nat.zero_add, expect_out, hN])) $$ [Hc HO Hat]
  · isplitr; · iapply (inv_at m K c (some (false, t))); iexact HR
    isplitl [Hc]; · rw [hN]; iexact Hc
    isplitl [HO]; · iexact HO
    isplitr; · iapply (mayWait_of c (.dma (outS t)) [] (fun t' ht' => absurd ht' (List.not_mem_nil))); iexact Hlev
    iexact Hat
  iintro ⟨HO, Hat, -, Hpay⟩
  ihave Hp := (Entails.of_eq (rest_out m c t)) $$ Hpay
  iapply Hk
  isplitl [Hp Hat]
  · isplitl [Hp] <;> iassumption
  iexists _; iexact HO
end Transfers

end Cert.KernelIdeal.Mlp

end
-- ==== Proof.Phases.lean ====
/-
  The pieces of the run, each against what it needs and what it leaves: a weight put in its place, the meeting, a half of
  the rows spread, a peer served, the parts received and summed, the read-outs waited for. Each is stated for any layer,
  half and peer, and for any continuation.
-/
module

public import proofs.«01_k».proof.Proof.Steps

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cl → ℕ) {c : Dev nD} {α : Type} {Q : α → sProp (MT nD τ sig Unit (Elt F) ℕ UU ℕ)}
variable {Q₁ : PUnit → sProp (MT nD τ sig Unit (Elt F) ℕ UU ℕ)} {Q₂ : FVec F S128x256 .f32 → sProp (MT nD τ sig Unit (Elt F) ℕ UU ℕ)}
  {Q₃ : FVec F S128x256 .bf16 → sProp (MT nD τ sig Unit (Elt F) ℕ UU ℕ)}

/-- A run that has ended meets what holds of its value, -/
theorem wp_done {a : α} : Q a ⊢ WP c (.ret a) Q := by
  refine .trans ?_ (Entails.of_eq (wp_ret ..).symm)
  exact fupd_intro
/-- also given something to hand over. -/
theorem wp_end {P : sProp 𝕄} {a : α} : iprop(P -∗ Q a) ⊢ iprop(P -∗ WP c (.ret a) Q) := by
  iintro H HP
  iapply wp_done
  iapply H
  iexact HP

/-- A run of one piece after another. -/
theorem wp_then {β : Type} {p : Pg F β} {k : β → Pg F α} : WP c p (fun a => WP c (k a) Q) ⊢ WP c (p >>= k) Q :=
  Entails.of_eq (wp_bind ..).symm

/-! ## The weights -/

/-- The device's weights of layer `l`, in their places. -/
def wts (c : Dev nD) (l : Fin 3) : sProp 𝕄 :=
  iprop(held (UM.access (rU l)) c fullShare (k0_pay1 (uin m c l)) ∗ held (DM.access (rD l)) c fullShare (k0_pay2 (win m c l)))

/-- A first weight is put in its place. -/
theorem wp_put_first (l : Fin 3) (M : Memref sig .tc .vmem S256x512 .bf16) (v : Vec F S256x512 .bf16)
    (hM : ∀ f : Buf (Elt F) (M.view.loc (c : Thread nD τ)), M.view.read (Elt F) f = v →
      M.view.readAt (Elt F) (Rect.unit (s := S256x512) ![0, 0] S256x512.size inb_S256x512_S256x512_0_0).toLoadRect f = v) :
    iprop(held M.view c fullShare v ∗ room (UM.access (rU l)) c)
      ⊢ iprop((held M.view c fullShare v ∗ held (UM.access (rU l)) c fullShare (k0_pay1 v) -∗ Q₁ ⟨⟩) -∗ WP c (putU l M) Q₁) := by
  unfold putU
  simp only [Prog.lift, Prog.bind_op, Prog.bind_ret]
  iintro ⟨HM, HU⟩ Hk
  unfold held
  icases HM with ⟨%f, %hf, HM⟩
  iapply (wp_load_rect 𝒱₀ (c : Thread nD τ) none Set.univ (m := M) (r := Rect.unit (s := S256x512) ![0, 0] S256x512.size inb_S256x512_S256x512_0_0)
    (S := M.view.set) (View.set_slice_subset _ _)) $$ HM
  iintro HM
  rw [show (M.access (Rect.unit (s := S256x512) ![0, 0] S256x512.size inb_S256x512_S256x512_0_0)).read (Elt F) f = v from hM f hf]
  iapply wp_load_room $$ HU
  iintro %_ HU
  iapply wp_store_room $$ HU
  iintro HU
  iapply wp_done
  iapply Hk
  isplitl [HM]
  · iexists f
    isplitr; · (ipureintro; exact hf)
    iexact HM
  unfold held
  iexact HU

/-- A second weight is put in its place. -/
theorem wp_put_second (l : Fin 3) (M : Memref sig .tc .vmem S512x256 .bf16) (v : Vec F S512x256 .bf16)
    (hM : ∀ f : Buf (Elt F) (M.view.loc (c : Thread nD τ)), M.view.read (Elt F) f = v →
      M.view.readAt (Elt F) (Rect.unit (s := S512x256) ![0, 0] S512x256.size inb_S512x256_S512x256_0_0).toLoadRect f = v) :
    iprop(held M.view c fullShare v ∗ room (DM.access (rD l)) c)
      ⊢ iprop((held M.view c fullShare v ∗ held (DM.access (rD l)) c fullShare (k0_pay2 v) -∗ Q₁ ⟨⟩) -∗ WP c (putD l M) Q₁) := by
  unfold putD
  simp only [Prog.lift, Prog.bind_op, Prog.bind_ret]
  iintro ⟨HM, HU⟩ Hk
  unfold held
  icases HM with ⟨%f, %hf, HM⟩
  iapply (wp_load_rect 𝒱₀ (c : Thread nD τ) none Set.univ (m := M) (r := Rect.unit (s := S512x256) ![0, 0] S512x256.size inb_S512x256_S512x256_0_0)
    (S := M.view.set) (View.set_slice_subset _ _)) $$ HM
  iintro HM
  rw [show (M.access (Rect.unit (s := S512x256) ![0, 0] S512x256.size inb_S512x256_S512x256_0_0)).read (Elt F) f = v from hM f hf]
  iapply wp_load_room $$ HU
  iintro %_ HU
  iapply wp_store_room $$ HU
  iintro HU
  iapply wp_done
  iapply Hk
  isplitl [HM]
  · iexists f
    isplitr; · (ipureintro; exact hf)
    iexact HM
  unfold held
  iexact HU

/-- A part is computed of the rows `x` and the device's weights. -/
theorem wp_part (l : Fin 3) (x : FVec F S128x256 .bf16) :
    wts m c l ⊢ iprop((wts m c l -∗ Q₂ (mlp x (k0_pay1 (uin m c l)) (k0_pay2 (win m c l)))) -∗ WP c (part l x) Q₂) := by
  unfold part wts
  simp only [Prog.lift, Prog.bind_op, Prog.bind_ret, Prog.pure_eq_ret]
  iintro ⟨HU, HD⟩ Hk
  iapply wp_load_held $$ HU
  iintro HU
  iapply wp_load_held $$ HD
  iintro HD
  iapply wp_done
  iapply Hk
  isplitl [HU] <;> iassumption

/-! ## The meeting -/

/-- Every device tells its three peers where they may write, and hears the same from them. -/
theorem wp_meet (W : Waits sig Unit) :
    iprop(ctx m K ∗ owes (c : Thread nD τ) (O₀ c) W ∗ cred (tallyAt (barCell c) () 3) ∗ atPos ER (barCell c) 0 ∅ 0
        ∗ (dutyTok ER (barCell (aft c 0)) 0 (Fin.rev 0) ∗ barPay (aft c 0) (Fin.rev 0))
        ∗ (dutyTok ER (barCell (aft c 1)) 0 (Fin.rev 1) ∗ barPay (aft c 1) (Fin.rev 1))
        ∗ (dutyTok ER (barCell (aft c 2)) 0 (Fin.rev 2) ∗ barPay (aft c 2) (Fin.rev 2)))
      ⊢ iprop((debt c sends ∗ atPos ER (barCell c) 1 ∅ 0 ∗ (bigSep Finset.univ fun d : Fin 3 => (barPay c d : sProp 𝕄)) -∗ Q₁ ⟨⟩)
          -∗ WP c (meet c) Q₁) := by
  unfold meet
  simp only [Prog.lift, Prog.bind_op, Prog.bind_ret, semSignalWord, semWaitWord, devB_eq]
  unfold ctx O₀
  iintro ⟨⟨#HR, #Hlev⟩, HO, Hc, Hat, ⟨Ht0, Hp0⟩, ⟨Ht1, Hp1⟩, ⟨Ht2, Hp2⟩⟩ Hk
  iapply (Rounds.wp_signal 𝒱₀ ER (sched m) (c : Thread nD τ) none (dst := (aft c 0 : Thread nD τ)) (κ := K (aft c 0, none)) (r := 0)
      (d := Fin.rev 0) (by rw [duties_bar]; exact Finset.mem_univ _) ((amount_bar m (aft c 0) _).trans (by decide)) ()
      (owedL c sends + tallyAt (barCell (aft c 2)) () 1 + tallyAt (barCell (aft c 1)) () 1) rfl) $$ [HO Ht0 Hp0]
  · isplitr; · iapply (inv_at m K (aft c 0) none); iexact HR
    isplitl [HO]; · iexact HO
    isplitl [Ht0]; · iexact Ht0
    isplitl [Hp0]; · rw [payload_bar]; iexact Hp0
    iapply (reached_at m K (aft c 0) none); iexact HR
  iintro HO
  iapply (Rounds.wp_signal 𝒱₀ ER (sched m) (c : Thread nD τ) none (dst := (aft c 1 : Thread nD τ)) (κ := K (aft c 1, none)) (r := 0)
      (d := Fin.rev 1) (by rw [duties_bar]; exact Finset.mem_univ _) ((amount_bar m (aft c 1) _).trans (by decide)) ()
      (owedL c sends + tallyAt (barCell (aft c 2)) () 1) rfl) $$ [HO Ht1 Hp1]
  · isplitr; · iapply (inv_at m K (aft c 1) none); iexact HR
    isplitl [HO]; · iexact HO
    isplitl [Ht1]; · iexact Ht1
    isplitl [Hp1]; · rw [payload_bar]; iexact Hp1
    iapply (reached_at m K (aft c 1) none); iexact HR
  iintro HO
  iapply (Rounds.wp_signal 𝒱₀ ER (sched m) (c : Thread nD τ) none (dst := (aft c 2 : Thread nD τ)) (κ := K (aft c 2, none)) (r := 0)
      (d := Fin.rev 2) (by rw [duties_bar]; exact Finset.mem_univ _) ((amount_bar m (aft c 2) _).trans (by decide)) ()
      (owedL c sends) rfl) $$ [HO Ht2 Hp2]
  · isplitr; · iapply (inv_at m K (aft c 2) none); iexact HR
    isplitl [HO]; · iexact HO
    isplitl [Ht2]; · iexact Ht2
    isplitl [Hp2]; · rw [payload_bar]; iexact Hp2
    iapply (reached_at m K (aft c 2) none); iexact HR
  iintro HO
  iapply (Rounds.wp_wait_rest_token 𝒱₀ ER (sched m) (c : Thread nD τ) none (κ := K (c, none))
      (wpE_semWait_eq 𝒱₀ (c : Thread nD τ) none Set.univ) (Set.mem_univ _) () (O := owedL c sends) (W := W) (R := 0) (m := 0) (T := ∅)
      (by rw [expect_bar]; decide)) $$ [Hc HO Hat]
  · isplitr; · iapply (inv_at m K c none); iexact HR
    isplitl [Hc]; · iexact Hc
    isplitl [HO]; · iexact HO
    isplitr
    · iapply (mayWait_of c (.reg barSem) sends (fun t _ => by rw [lv_bar]; unfold lvT; omega)); iexact Hlev
    iexact Hat
  iintro ⟨HO, Hat, -, Hpay⟩
  ihave Hp := (Entails.of_eq (rest_bar m c)) $$ Hpay
  iapply wp_done
  iapply Hk
  isplitl [HO]
  · unfold debt; iexists _; iexact HO
  isplitl [Hat] <;> iassumption

/-! ## The rows spread -/

/-- Sending half `h` of the own rows of layer `l` to the device `j + 1` after. -/
theorem wp_sendX (l : Fin 3) (h : Fin 2) (j : Fin 3) (rest : List T) :
    iprop(ctx m K ∗ held ((XM l).access (rT c h)) c (third j) (xv m l c h) ∗ toGo c ((false, l, j, h) :: rest))
      ⊢ iprop((sent c (false, l, j, h) ∗ toGo c rest -∗ Q₁ ⟨⟩) -∗ WP c (sendX c l h j) Q₁) :=
  (wp_send_next (k := .ret) m K (false, l, j, h) rest (devX c j) (devX_eq c j)).trans (wand_mono wp_end .rfl)

/-- A block held whole is held by its three shares. -/
theorem held_thirds {s : Shape} {e : EltTy} (V : View sig .tc .vmem s e) (v : Vec F s e) :
    held V c fullShare v ⊢ iprop(held V c (third 0) v ∗ held V c (third 1) v ∗ held V c (third 2) v) := by
  unfold held third
  iintro ⟨%f, %hf, H⟩
  ihave H := ((pointsTo_share (PosShare.mem_left_op_right fullShare)).1) $$ H
  icases H with ⟨H0, H⟩
  ihave H := ((pointsTo_share (PosShare.mem_left_op_right fullShare.right)).1) $$ H
  icases H with ⟨H1, H2⟩
  isplitl [H0]
  · iexists f; isplitr; · (ipureintro; exact hf)
    iexact H0
  isplitl [H1]
  · iexists f; isplitr; · (ipureintro; exact hf)
    iexact H1
  iexists f; isplitr; · (ipureintro; exact hf)
  iexact H2

/-- Half `h` of the own rows of layer `l` stored, sent to the three peers, and the own part of them computed. -/
theorem wp_spread (l : Fin 3) (h : Fin 2) (rest : List T) :
    iprop(ctx m K ∗ room ((XM l).access (rT c h)) c ∗ wts m c l ∗ toGo c (xs l h ++ rest))
      ⊢ iprop((bigSepL (xs l h) (sent c) ∗ wts m c l ∗ toGo c rest -∗ Q₂ (prt m l c c h)) -∗ WP c (spread c l h (xv m l c h)) Q₂) := by
  unfold spread xs
  simp only [Prog.lift, Prog.bind_op, Prog.bind_ret, List.cons_append, List.nil_append, bigSepL_cons']
  rw [← access_O]
  iintro ⟨#HC, HX, Hw, HG⟩ Hk
  iapply wp_load_room $$ HX
  iintro %_ HX
  iapply wp_store_room $$ HX
  iintro HX
  rw [access_O, show k0_pay7 (xv m l c h) = xv m l c h from shapeCast_self _ _]
  ihave HX := (held_thirds _ _) $$ HX
  icases HX with ⟨H0, H1, H2⟩
  iapply wp_then
  iapply (wp_sendX m K l h 0) $$ [H0 HG]
  · isplitr; · iexact HC
    isplitl [H0] <;> iassumption
  iintro ⟨Hs0, HG⟩
  iapply wp_then
  iapply (wp_sendX m K l h 1) $$ [H1 HG]
  · isplitr; · iexact HC
    isplitl [H1] <;> iassumption
  iintro ⟨Hs1, HG⟩
  iapply wp_then
  iapply (wp_sendX m K l h 2) $$ [H2 HG]
  · isplitr; · iexact HC
    isplitl [H2] <;> iassumption
  iintro ⟨Hs2, HG⟩
  iapply (wp_part m l) $$ Hw
  iintro Hw
  rw [show mlp (xv m l c h) (k0_pay1 (uin m c l)) (k0_pay2 (win m c l)) = prt m l c c h from rfl]
  iapply Hk
  isplitl [Hs0 Hs1 Hs2]
  · isplitl [Hs0]; · iexact Hs0
    isplitl [Hs1]; · iexact Hs1
    isplitl [Hs2]; · iexact Hs2
    iempintro
  isplitl [Hw] <;> iassumption

/-! ## The peers served -/

/-- Sending the part in slot `(j, h)` of layer `l` to the device `j + 1` after. -/
theorem wp_sendP (l : Fin 3) (j : Fin 3) (h : Fin 2) (rest : List T) :
    iprop(ctx m K ∗ held (SM.access (rP l (pl j h))) c fullShare (slot (trunc (prt m l (aft c j) c h))) ∗ toGo c ((true, l, j, h) :: rest))
      ⊢ iprop((sent c (true, l, j, h) ∗ toGo c rest -∗ Q₁ ⟨⟩) -∗ WP c (sendP c l j h) Q₁) :=
  (sep_mono .rfl (sep_mono (held_slot_in _ squeezes_S1x1x128x256_S128x256.numel_eq _ _ _) .rfl)).trans
    ((wp_send_next (k := .ret) m K (true, l, j, h) rest (devP c j) (devP_eq c j)).trans (wand_mono wp_end .rfl))

/-- Waiting for half `h` of the rows of the device `j + 1` before. -/
theorem wp_waitX (l : Fin 3) (j : Fin 3) (h : Fin 2) (rest : List T) (hl : ∀ t' ∈ rest, lvT (false, l, j, h) < lvT t') :
    iprop(ctx m K ∗ toGet c (false, l, j, h) ∗ toGo c rest)
      ⊢ iprop((got m c (false, l, j, h) ∗ toGo c rest -∗ Q₁ ⟨⟩) -∗ WP c (waitX c l j h) Q₁) :=
  (wp_get (k := .ret) m K (false, l, j, h) rest hl (N_d (false, l, j, h) c)).trans (wand_mono wp_end .rfl)

/-- A peer served: its rows awaited, the part for them computed and sent back. -/
theorem wp_serve (l : Fin 3) (j : Fin 3) (h : Fin 2) (rest : List T) (hl : ∀ t' ∈ (true, l, j.rev, h) :: rest, lvT (false, l, j, h) < lvT t') :
    iprop(ctx m K ∗ toGet c (false, l, j, h) ∗ room (SM.access (rP l (pl j.rev h))) c ∗ wts m c l ∗ toGo c ((true, l, j.rev, h) :: rest))
      ⊢ iprop((got m c (false, l, j, h) ∗ sent c (true, l, j.rev, h) ∗ wts m c l ∗ toGo c rest -∗ Q₁ ⟨⟩) -∗ WP c (serve c l j h) Q₁) := by
  unfold serve
  simp only [Prog.lift, Prog.bind_op, Prog.bind_ret]
  iintro ⟨#HC, Hg, HS, Hw, HG⟩ Hk
  iapply wp_then
  iapply (wp_waitX m K l j h _ hl) $$ [Hg HG]
  · isplitr; · iexact HC
    isplitl [Hg] <;> iassumption
  unfold got inPay
  iintro ⟨⟨Hx, Hat⟩, HG⟩
  ihave Hx := (show held (dM (false, l, j, h) (bef c j)).view c fullShare (wire m (false, l, j, h) (bef c j))
      ⊢ (held ((XM l).access (rF c j h)) c fullShare (xv m l (bef c j) h) : sProp 𝕄) from by rw [access_F]; exact .rfl) $$ Hx
  iapply wp_load_held $$ Hx
  iintro Hx
  iapply wp_then
  iapply (wp_part m l) $$ Hw
  iintro Hw
  iapply wp_load_room $$ HS
  iintro %_ HS
  iapply wp_store_room $$ HS
  iintro HS
  iapply (wp_sendP m K l j.rev h rest) $$ [HS HG]
  · isplitr; · iexact HC
    isplitl [HS]; · rw [aft_rev]; iexact HS
    iexact HG
  iintro ⟨Hs, HG⟩
  iapply Hk
  isplitl [Hx Hat]
  · isplitl [Hx]
    · iapply (show (held ((XM l).access (rF c j h)) c fullShare (xv m l (bef c j) h) : sProp 𝕄)
        ⊢ held (dM (false, l, j, h) (bef c j)).view c fullShare (wire m (false, l, j, h) (bef c j)) from by rw [access_F]; exact .rfl)
      iexact Hx
    iexact Hat
  isplitl [Hs]; · iexact Hs
  isplitl [Hw] <;> iassumption

/-! ## The parts summed -/

/-- A part awaited and added on. -/
theorem wp_takeP (l : Fin 3) (h : Fin 2) (j : Fin 3) (p : FVec F S128x256 .f32) (rest : List T) (hl : ∀ t' ∈ rest, lvT (true, l, j, h) < lvT t') :
    iprop(ctx m K ∗ toGet c (true, l, j, h) ∗ toGo c rest)
      ⊢ iprop((got m c (true, l, j, h) ∗ toGo c rest -∗ Q₂ (addIn p (slot (trunc (prt m l c (bef c j) h))))) -∗ WP c (takeP l h j p) Q₂) := by
  unfold takeP
  simp only [Prog.lift, Prog.bind_op, Prog.bind_ret, Prog.pure_eq_ret]
  iintro H Hk
  iapply (wp_get m K (true, l, j, h) rest hl (N_d (true, l, j, h) c)) $$ H
  unfold got inPay
  iintro ⟨⟨Hr, Hat⟩, HG⟩
  ihave Hr := (show held (dM (true, l, j, h) (bef c j)).view c fullShare (wire m (true, l, j, h) (bef c j)) ⊢ _ from
    held_slot_out (RM.access (rP l (pl j h))) squeezes_S1x1x128x256_S128x256.numel_eq c fullShare (wire m (true, l, j, h) (bef c j))) $$ Hr
  iapply wp_load_held $$ Hr
  iintro Hr
  iapply wp_done
  rw [show wire m (true, l, j, h) (bef c j) = trunc (prt m l c (bef c j) h) from by
    show trunc (prt m l (aft (bef c j) j) (bef c j) h) = _; rw [aft_bef]]
  iapply Hk
  isplitl [Hr Hat]
  · isplitl [Hr]
    · iapply (held_slot_in (RM.access (rP l (pl j h))) squeezes_S1x1x128x256_S128x256.numel_eq c fullShare (trunc (prt m l c (bef c j) h)))
      iexact Hr
    iexact Hat
  iexact HG

/-- The parts of half `h` of layer `l`, in the order in which the kernel adds them. -/
def rPs (l : Fin 3) (h : Fin 2) : List T := [(true, l, 2, h), (true, l, 0, h), (true, l, 1, h)]

/-- The four parts summed. -/
theorem wp_total (l : Fin 3) (h : Fin 2) (rest : List T) (hl : ∀ t' ∈ rest, 2 * l.val + 3 < lvT t') :
    iprop(ctx m K ∗ bigSepL (rPs l h) (toGet c) ∗ toGo c rest)
      ⊢ iprop((bigSepL (rPs l h) (got m c) ∗ toGo c rest -∗ Q₂ (tot m l c h)) -∗ WP c (total l h (prt m l c c h)) Q₂) := by
  unfold total rPs
  simp only [bigSepL_cons']
  iintro ⟨#HC, ⟨H2, H0, H1, -⟩, HG⟩ Hk
  iapply wp_then
  iapply (wp_takeP m K l h 2 _ rest hl) $$ [H2 HG]
  · isplitr; · iexact HC
    isplitl [H2] <;> iassumption
  iintro ⟨H2, HG⟩
  iapply wp_then
  iapply (wp_takeP m K l h 0 _ rest hl) $$ [H0 HG]
  · isplitr; · iexact HC
    isplitl [H0] <;> iassumption
  iintro ⟨H0, HG⟩
  iapply (wp_takeP m K l h 1 _ rest hl) $$ [H1 HG]
  · isplitr; · iexact HC
    isplitl [H1] <;> iassumption
  iintro ⟨H1, HG⟩
  rw [show addIn (addIn (addIn (prt m l c c h) (slot (trunc (prt m l c (bef c 2) h)))) (slot (trunc (prt m l c (bef c 0) h))))
    (slot (trunc (prt m l c (bef c 1) h))) = tot m l c h from rfl]
  iapply Hk
  isplitl [H0 H1 H2]
  · isplitl [H2]; · iexact H2
    isplitl [H0]; · iexact H0
    isplitl [H1]; · iexact H1
    iempintro
  iexact HG

/-! ## The result, and the read-outs -/

/-- Half `h` of the result stored. -/
theorem wp_putOut (M : Memref sig .tc .vmem S256x256 .f32) (h : Fin 2) (p : FVec F S128x256 .f32) :
    room (M.access (rH h)) c ⊢ iprop((held (M.access (rH h)) c fullShare p -∗ Q₁ ⟨⟩) -∗ WP c (putOut M h p) Q₁) := by
  unfold putOut
  simp only [Prog.lift, Prog.bind_op, Prog.bind_ret]
  iintro HM Hk
  iapply wp_load_room $$ HM
  iintro %_ HM
  iapply wp_store_room $$ HM
  iintro HM
  iapply wp_done
  iapply Hk
  iexact HM

/-- The read-out of a half of the own rows awaited. -/
theorem wp_doneX (l : Fin 3) (h : Fin 2) (j : Fin 3) :
    iprop(ctx m K ∗ sent c (false, l, j, h) ∗ debt c [])
      ⊢ iprop((back m c (false, l, j, h) ∗ debt c [] -∗ Q₁ ⟨⟩) -∗ WP c (doneX c l h j) Q₁) :=
  (wp_back (k := .ret) m K (false, l, j, h) (N_d (false, l, j, h) c)).trans (wand_mono wp_end .rfl)

/-- The read-out of a part awaited. -/
theorem wp_doneP (l : Fin 3) (j : Fin 3) (h : Fin 2) :
    iprop(ctx m K ∗ sent c (true, l, j, h) ∗ debt c [])
      ⊢ iprop((back m c (true, l, j, h) ∗ debt c [] -∗ Q₁ ⟨⟩) -∗ WP c (doneP l j h) Q₁) :=
  (wp_back (k := .ret) m K (true, l, j, h) (N_s (true, l, j, h) c)).trans (wand_mono wp_end .rfl)

end Cert.KernelIdeal.Mlp

end
-- ==== Proof.Run.lean ====
/-
  The whole run of one device: the pieces put together, from what the device holds when its body begins to what it holds
  when all the transfers it sent and received have been waited for.
-/
module

public import proofs.«01_k».proof.Proof.Phases

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cl → ℕ) {c : Dev nD}
variable {Q₁ : PUnit → sProp (MT nD τ sig Unit (Elt F) ℕ UU ℕ)} {Q₃ : FVec F S128x256 .bf16 → sProp (MT nD τ sig Unit (Elt F) ℕ UU ℕ)}

/-! ## A layer's services and read-outs -/

/-- The rows a device awaits in layer `l`, in the order in which it serves them. -/
def rXs (l : Fin 3) : List T := [(false, l, 0, 0), (false, l, 2, 0), (false, l, 0, 1), (false, l, 2, 1), (false, l, 1, 0), (false, l, 1, 1)]

/-- The place a part is read from, before it is stored there. -/
def srcRoom (c : Dev nD) (t : T) : sProp 𝕄 := room (sM t c).view c
theorem srcRoom_part (l j : Fin 3) (h : Fin 2) : (srcRoom c (true, l, j, h) : sProp 𝕄) = room (SM.access (rP l (pl j h))) c :=
  room_slot (SM.access (rP l (pl j h))) squeezes_S1x1x128x256_S128x256.numel_eq c

/-- A peer served, the place `j'` of the part sent back named. -/
theorem wp_serve_then (l j j' : Fin 3) (hj : j' = j.rev) (h : Fin 2) (rest : List T) (hl : ∀ t' ∈ (true, l, j', h) :: rest, lvT (false, l, j, h) < lvT t') :
    iprop(ctx m K ∗ toGet c (false, l, j, h) ∗ room (SM.access (rP l (pl j' h))) c ∗ wts m c l ∗ toGo c ((true, l, j', h) :: rest))
      ⊢ iprop((got m c (false, l, j, h) ∗ sent c (true, l, j', h) ∗ wts m c l ∗ toGo c rest -∗ Q₁ ⟨⟩) -∗ WP c (serve c l j h) Q₁) := by
  subst hj; exact wp_serve m K l j h rest hl

/-- A layer's six services. -/
theorem wp_serves (l : Fin 3) (rest : List T) (hl : ∀ t' ∈ ps l ++ rest, 2 * l.val + 2 < lvT t') :
    iprop(ctx m K ∗ bigSepL (rXs l) (toGet c) ∗ bigSepL (ps l) (srcRoom c) ∗ wts m c l ∗ toGo c (ps l ++ rest))
      ⊢ iprop((bigSepL (rXs l) (got m c) ∗ bigSepL (ps l) (sent c) ∗ wts m c l ∗ toGo c rest -∗ Q₁ ⟨⟩) -∗ WP c (serves c l) Q₁) := by
  revert hl
  unfold serves rXs ps
  simp only [bigSepL_cons', List.cons_append, List.nil_append, srcRoom_part]
  intro hl
  have h6 := fun t' (ht : t' ∈ (true, l, (1 : Fin 3), (1 : Fin 2)) :: rest) => hl t' (by simp only [List.mem_cons] at ht ⊢; tauto)
  have h5 := fun t' (ht : t' ∈ (true, l, (1 : Fin 3), (0 : Fin 2)) :: (true, l, (1 : Fin 3), (1 : Fin 2)) :: rest) => hl t' (by simp only [List.mem_cons] at ht ⊢; tauto)
  have h4 := fun t' (ht : t' ∈ (true, l, (0 : Fin 3), (1 : Fin 2)) :: (true, l, (1 : Fin 3), (0 : Fin 2)) :: (true, l, (1 : Fin 3), (1 : Fin 2)) :: rest) =>
    hl t' (by simp only [List.mem_cons] at ht ⊢; tauto)
  have h3 := fun t' (ht : t' ∈ (true, l, (2 : Fin 3), (1 : Fin 2)) :: (true, l, (0 : Fin 3), (1 : Fin 2)) :: (true, l, (1 : Fin 3), (0 : Fin 2)) :: (true, l, (1 : Fin 3), (1 : Fin 2)) :: rest) =>
    hl t' (by simp only [List.mem_cons] at ht ⊢; tauto)
  have h2 := fun t' (ht : t' ∈ (true, l, (0 : Fin 3), (0 : Fin 2)) :: (true, l, (2 : Fin 3), (1 : Fin 2)) :: (true, l, (0 : Fin 3), (1 : Fin 2)) :: (true, l, (1 : Fin 3), (0 : Fin 2)) :: (true, l, (1 : Fin 3), (1 : Fin 2)) :: rest) =>
    hl t' (by simp only [List.mem_cons] at ht ⊢; tauto)
  iintro ⟨#HC, ⟨G1, G2, G3, G4, G5, G6, -⟩, ⟨S1, S2, S3, S4, S5, S6, -⟩, Hw, HG⟩ Hk
  iapply wp_then
  iapply (wp_serve_then m K l 0 2 (by decide) 0 _ hl) $$ [G1 S1 Hw HG]
  · isplitr; · iexact HC
    isplitl [G1]; · iexact G1
    isplitl [S1]; · iexact S1
    isplitl [Hw] <;> iassumption
  iintro ⟨G1, S1, Hw, HG⟩
  iapply wp_then
  iapply (wp_serve_then m K l 2 0 (by decide) 0 _ h2) $$ [G2 S2 Hw HG]
  · isplitr; · iexact HC
    isplitl [G2]; · iexact G2
    isplitl [S2]; · iexact S2
    isplitl [Hw] <;> iassumption
  iintro ⟨G2, S2, Hw, HG⟩
  iapply wp_then
  iapply (wp_serve_then m K l 0 2 (by decide) 1 _ h3) $$ [G3 S3 Hw HG]
  · isplitr; · iexact HC
    isplitl [G3]; · iexact G3
    isplitl [S3]; · iexact S3
    isplitl [Hw] <;> iassumption
  iintro ⟨G3, S3, Hw, HG⟩
  iapply wp_then
  iapply (wp_serve_then m K l 2 0 (by decide) 1 _ h4) $$ [G4 S4 Hw HG]
  · isplitr; · iexact HC
    isplitl [G4]; · iexact G4
    isplitl [S4]; · iexact S4
    isplitl [Hw] <;> iassumption
  iintro ⟨G4, S4, Hw, HG⟩
  iapply wp_then
  iapply (wp_serve_then m K l 1 1 (by decide) 0 _ h5) $$ [G5 S5 Hw HG]
  · isplitr; · iexact HC
    isplitl [G5]; · iexact G5
    isplitl [S5]; · iexact S5
    isplitl [Hw] <;> iassumption
  iintro ⟨G5, S5, Hw, HG⟩
  iapply (wp_serve_then m K l 1 1 (by decide) 1 _ h6) $$ [G6 S6 Hw HG]
  · isplitr; · iexact HC
    isplitl [G6]; · iexact G6
    isplitl [S6]; · iexact S6
    isplitl [Hw] <;> iassumption
  iintro ⟨G6, S6, Hw, HG⟩
  iapply Hk
  isplitl [G1 G2 G3 G4 G5 G6]
  · isplitl [G1]; · iexact G1
    isplitl [G2]; · iexact G2
    isplitl [G3]; · iexact G3
    isplitl [G4]; · iexact G4
    isplitl [G5]; · iexact G5
    isplitl [G6]; · iexact G6
    iempintro
  isplitl [S1 S2 S3 S4 S5 S6]
  · isplitl [S1]; · iexact S1
    isplitl [S2]; · iexact S2
    isplitl [S3]; · iexact S3
    isplitl [S4]; · iexact S4
    isplitl [S5]; · iexact S5
    isplitl [S6]; · iexact S6
    iempintro
  isplitl [Hw] <;> iassumption

/-- One read-out of the rest of a layer's awaited, then the others. -/
theorem wp_doneX_then (l : Fin 3) (h : Fin 2) (j : Fin 3) {k : PUnit → Pg F PUnit} :
    iprop(ctx m K ∗ sent c (false, l, j, h) ∗ debt c [])
      ⊢ iprop((back m c (false, l, j, h) ∗ debt c [] -∗ WP c (k ⟨⟩) Q₁) -∗ WP c (doneX c l h j >>= k) Q₁) :=
  (wp_doneX m K l h j).trans (wand_mono_right wp_then)
theorem wp_doneP_then (l : Fin 3) (j : Fin 3) (h : Fin 2) {k : PUnit → Pg F PUnit} :
    iprop(ctx m K ∗ sent c (true, l, j, h) ∗ debt c [])
      ⊢ iprop((back m c (true, l, j, h) ∗ debt c [] -∗ WP c (k ⟨⟩) Q₁) -∗ WP c (doneP l j h >>= k) Q₁) :=
  (wp_doneP m K l j h).trans (wand_mono_right wp_then)

/-- A layer's read-outs awaited. -/
theorem wp_dones (l : Fin 3) :
    iprop(ctx m K ∗ bigSepL (xs l 0) (sent c) ∗ bigSepL (xs l 1) (sent c) ∗ bigSepL (ps l) (sent c) ∗ debt c [])
      ⊢ iprop((bigSepL (xs l 0) (back m c) ∗ bigSepL (xs l 1) (back m c) ∗ bigSepL (ps l) (back m c) ∗ debt c [] -∗ Q₁ ⟨⟩) -∗ WP c (dones c l) Q₁) := by
  unfold dones xs ps
  simp only [bigSepL_cons']
  iintro ⟨#HC, ⟨A0, A1, A2, -⟩, ⟨B0, B1, B2, -⟩, ⟨S1, S2, S3, S4, S5, S6, -⟩, HD⟩ Hk
  iapply (wp_doneX_then m K l 0 0) $$ [A0 HD]
  · isplitr; · iexact HC
    isplitl [A0] <;> iassumption
  iintro ⟨A0, HD⟩
  iapply (wp_doneX_then m K l 0 1) $$ [A1 HD]
  · isplitr; · iexact HC
    isplitl [A1] <;> iassumption
  iintro ⟨A1, HD⟩
  iapply (wp_doneX_then m K l 0 2) $$ [A2 HD]
  · isplitr; · iexact HC
    isplitl [A2] <;> iassumption
  iintro ⟨A2, HD⟩
  iapply (wp_doneX_then m K l 1 0) $$ [B0 HD]
  · isplitr; · iexact HC
    isplitl [B0] <;> iassumption
  iintro ⟨B0, HD⟩
  iapply (wp_doneX_then m K l 1 1) $$ [B1 HD]
  · isplitr; · iexact HC
    isplitl [B1] <;> iassumption
  iintro ⟨B1, HD⟩
  iapply (wp_doneX_then m K l 1 2) $$ [B2 HD]
  · isplitr; · iexact HC
    isplitl [B2] <;> iassumption
  iintro ⟨B2, HD⟩
  iapply (wp_doneP_then m K l 2 0) $$ [S1 HD]
  · isplitr; · iexact HC
    isplitl [S1] <;> iassumption
  iintro ⟨S1, HD⟩
  iapply (wp_doneP_then m K l 0 0) $$ [S2 HD]
  · isplitr; · iexact HC
    isplitl [S2] <;> iassumption
  iintro ⟨S2, HD⟩
  iapply (wp_doneP_then m K l 2 1) $$ [S3 HD]
  · isplitr; · iexact HC
    isplitl [S3] <;> iassumption
  iintro ⟨S3, HD⟩
  iapply (wp_doneP_then m K l 0 1) $$ [S4 HD]
  · isplitr; · iexact HC
    isplitl [S4] <;> iassumption
  iintro ⟨S4, HD⟩
  iapply (wp_doneP_then m K l 1 0) $$ [S5 HD]
  · isplitr; · iexact HC
    isplitl [S5] <;> iassumption
  iintro ⟨S5, HD⟩
  iapply (wp_doneP m K l 1 1) $$ [S6 HD]
  · isplitr; · iexact HC
    isplitl [S6] <;> iassumption
  iintro ⟨S6, HD⟩
  iapply Hk
  isplitl [A0 A1 A2]
  · isplitl [A0]; · iexact A0
    isplitl [A1]; · iexact A1
    isplitl [A2]; · iexact A2
    iempintro
  isplitl [B0 B1 B2]
  · isplitl [B0]; · iexact B0
    isplitl [B1]; · iexact B1
    isplitl [B2]; · iexact B2
    iempintro
  isplitl [S1 S2 S3 S4 S5 S6]
  · isplitl [S1]; · iexact S1
    isplitl [S2]; · iexact S2
    isplitl [S3]; · iexact S3
    isplitl [S4]; · iexact S4
    isplitl [S5]; · iexact S5
    isplitl [S6]; · iexact S6
    iempintro
  iexact HD

/-! ## The staging buffers -/

/-- Half `h` of the input's rows loaded. -/
theorem wp_loadX (h : Fin 2) :
    held (Memref.whole cc0_stg0_0 : Memref sig .tc .vmem S256x256 .bf16).view c fullShare (xin m c)
      ⊢ iprop((held (Memref.whole cc0_stg0_0 : Memref sig .tc .vmem S256x256 .bf16).view c fullShare (xin m c) -∗ Q₃ (xv m 0 c h))
          -∗ WP c (loadX (Memref.whole cc0_stg0_0) h) Q₃) := by
  unfold loadX
  simp only [Prog.lift, Prog.bind_op, Prog.bind_ret, Prog.pure_eq_ret]
  iintro HM Hk
  unfold held
  icases HM with ⟨%f, %hf, HM⟩
  iapply (wp_load_rect 𝒱₀ (c : Thread nD τ) none Set.univ (m := (Memref.whole cc0_stg0_0 : Memref sig .tc .vmem S256x256 .bf16)) (r := rH h)
    (S := (Memref.whole cc0_stg0_0 : Memref sig .tc .vmem S256x256 .bf16).view.set) (View.set_slice_subset _ _)) $$ HM
  iintro HM
  iapply wp_done
  have hf' : f = xin m c := hf
  rw [show k0_pay7 (((Memref.whole cc0_stg0_0 : Memref sig .tc .vmem S256x256 .bf16).access (rH h)).read (Elt F) f) = xv m 0 c h from by
    rw [hf']; exact shapeCast_self _ _]
  iapply Hk
  iexists f
  isplitr; · (ipureintro; exact hf)
  iexact HM

/-- The staged first weights of layer `l`, -/
def stU (c : Dev nD) : Fin 3 → sProp 𝕄
  | 0 => held (Memref.whole cc0_stg1_0 : Memref sig .tc .vmem S256x512 .bf16).view c fullShare (uin m c 0)
  | 1 => held (Memref.whole cc0_stg3_0 : Memref sig .tc .vmem S256x512 .bf16).view c fullShare (uin m c 1)
  | 2 => held (Memref.whole cc0_stg5_0 : Memref sig .tc .vmem S256x512 .bf16).view c fullShare (uin m c 2)
/-- and the second. -/
def stW (c : Dev nD) : Fin 3 → sProp 𝕄
  | 0 => held (Memref.whole cc0_stg2_0 : Memref sig .tc .vmem S512x256 .bf16).view c fullShare (win m c 0)
  | 1 => held (Memref.whole cc0_stg4_0 : Memref sig .tc .vmem S512x256 .bf16).view c fullShare (win m c 1)
  | 2 => held (Memref.whole cc0_stg6_0 : Memref sig .tc .vmem S512x256 .bf16).view c fullShare (win m c 2)
/-- The buffers that stage them. -/
def mU : Fin 3 → Memref sig .tc .vmem S256x512 .bf16
  | 0 => Memref.whole cc0_stg1_0
  | 1 => Memref.whole cc0_stg3_0
  | 2 => Memref.whole cc0_stg5_0
def mW : Fin 3 → Memref sig .tc .vmem S512x256 .bf16
  | 0 => Memref.whole cc0_stg2_0
  | 1 => Memref.whole cc0_stg4_0
  | 2 => Memref.whole cc0_stg6_0

theorem zero2 : (![0, 0] : Fin 2 → Nat) = fun _ => 0 := by decide

/-- A load of a whole staging buffer reads what it holds. -/
theorem read_mU : ∀ (l : Fin 3) (f : Buf (Elt F) ((mU l).view.loc (c : Thread nD τ))),
    (mU l).view.readAt (Elt F) (Rect.unit (s := S256x512) ![0, 0] S256x512.size inb_S256x512_S256x512_0_0).toLoadRect f = (mU l).view.read (Elt F) f
  | 0, f => Memref.readAt_unit_zero (Elt F) cc0_stg1_0 zero2 _ f
  | 1, f => Memref.readAt_unit_zero (Elt F) cc0_stg3_0 zero2 _ f
  | 2, f => Memref.readAt_unit_zero (Elt F) cc0_stg5_0 zero2 _ f
theorem read_mW : ∀ (l : Fin 3) (f : Buf (Elt F) ((mW l).view.loc (c : Thread nD τ))),
    (mW l).view.readAt (Elt F) (Rect.unit (s := S512x256) ![0, 0] S512x256.size inb_S512x256_S512x256_0_0).toLoadRect f = (mW l).view.read (Elt F) f
  | 0, f => Memref.readAt_unit_zero (Elt F) cc0_stg2_0 zero2 _ f
  | 1, f => Memref.readAt_unit_zero (Elt F) cc0_stg4_0 zero2 _ f
  | 2, f => Memref.readAt_unit_zero (Elt F) cc0_stg6_0 zero2 _ f

/-- A layer's weights are put in their places. -/
theorem wp_weights (l : Fin 3) {k : Pg F PUnit} :
    iprop(stU m c l ∗ stW m c l ∗ room (UM.access (rU l)) c ∗ room (DM.access (rD l)) c)
      ⊢ iprop((stU m c l ∗ stW m c l ∗ wts m c l -∗ WP c k Q₁) -∗ WP c (putU l (mU l) >>= fun _ => putD l (mW l) >>= fun _ => k) Q₁) := by
  have hU : ∀ l : Fin 3, (stU m c l : sProp 𝕄) = held (mU l).view c fullShare (uin m c l) := fun l => by fin_cases l <;> rfl
  have hW : ∀ l : Fin 3, (stW m c l : sProp 𝕄) = held (mW l).view c fullShare (win m c l) := fun l => by fin_cases l <;> rfl
  rw [hU, hW]
  unfold wts
  iintro ⟨HU, HW, RU, RD⟩ Hk
  iapply wp_then
  iapply (wp_put_first l (mU l) (uin m c l) (fun f hf => (read_mU l f).trans hf)) $$ [HU RU]
  · isplitl [HU] <;> iassumption
  iintro ⟨HU, RU⟩
  iapply wp_then
  iapply (wp_put_second l (mW l) (win m c l) (fun f hf => (read_mW l f).trans hf)) $$ [HW RD]
  · isplitl [HW] <;> iassumption
  iintro ⟨HW, RD⟩
  iapply Hk
  isplitl [HU]; · iexact HU
  isplitl [HW]; · iexact HW
  isplitl [RU] <;> iassumption

end Cert.KernelIdeal.Mlp

end
-- ==== Proof.Whole.lean ====
/-
  The run of one device, whole: from the rooms, tokens and credits its body begins with, through the three layers, to all
  its transfers waited for and the result stored.
-/
module

public import proofs.«01_k».proof.Proof.Run

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cl → ℕ) {c : Dev nD}
variable {Q₁ : PUnit → sProp (MT nD τ sig Unit (Elt F) ℕ UU ℕ)}

/-! ## The transfers of a layer, and the places of each -/

/-- What a device awaits in layer `l`, -/
def recvL (l : Fin 3) : List T := rXs l ++ (rPs l 0 ++ rPs l 1)
/-- and what it sends. -/
def sendL (l : Fin 3) : List T := xs l 0 ++ (xs l 1 ++ ps l)

theorem recv_all : (Finset.univ : Finset T) = (recvL 0 ++ (recvL 1 ++ recvL 2)).toFinset := by decide +kernel
theorem recv_nodup : (recvL 0 ++ (recvL 1 ++ recvL 2)).Nodup := by decide +kernel
theorem send_all : (Finset.univ : Finset T) = (sendL 0 ++ (sendL 1 ++ sendL 2)).toFinset := by decide +kernel
theorem send_nodup : (sendL 0 ++ (sendL 1 ++ sendL 2)).Nodup := by decide +kernel

/-- Something of every transfer, layer by layer in the order of the waits, -/
theorem all_recv (Φ : T → sProp 𝕄) : bigSep Finset.univ Φ = iprop(bigSepL (recvL 0) Φ ∗ bigSepL (recvL 1) Φ ∗ bigSepL (recvL 2) Φ) := by
  rw [bigSep_univ_eq_bigSepL _ recv_all recv_nodup Φ, bigSepL_append, bigSepL_append]
/-- and of the sends. -/
theorem all_send (Φ : T → sProp 𝕄) : bigSep Finset.univ Φ = iprop(bigSepL (sendL 0) Φ ∗ bigSepL (sendL 1) Φ ∗ bigSepL (sendL 2) Φ) := by
  rw [bigSep_univ_eq_bigSepL _ send_all send_nodup Φ, bigSepL_append, bigSepL_append]

/-- The places, then the rest of a transfer's index. -/
def byPlace : Fin 3 × (Bool × Fin 3 × Fin 2) ≃ T :=
  ⟨fun x => (x.2.1, x.2.2.1, x.1, x.2.2.2), fun t => (t.2.2.1, t.1, t.2.1, t.2.2.2), fun _ => rfl, fun _ => rfl⟩
/-- Something of every transfer, place by place. -/
theorem all_place (Φ : T → sProp 𝕄) :
    bigSep Finset.univ Φ = bigSep Finset.univ fun j : Fin 3 => bigSep Finset.univ fun k : Bool × Fin 3 × Fin 2 => Φ (k.1, k.2.1, j, k.2.2) := by
  rw [bigSep_univ_equiv byPlace Φ, bigSep_univ_prod]; rfl

/-! ## What the run begins with -/

/-- The tokens of a transfer to send. -/
def tok (c : Dev nD) (t : T) : sProp 𝕄 :=
  iprop(dutyTok ER (outCell c t) 0 0 ∗ dutyTok ER (inCell (aft c t.2.2.1) t) 0 0 ∗ atPos ER (outCell c t) 0 ∅ 0)

/-- A transfer's tokens, and the place where it lands, are the right to send it. -/
theorem toSend_of (c : Dev nD) (t : T) : iprop(tok c t ∗ room (dM t c).view (aft c t.2.2.1)) ⊢ (toSend c t : sProp 𝕄) := by
  unfold tok toSend
  iintro ⟨⟨H1, H2, H3⟩, H4⟩
  isplitl [H1]; · iexact H1
  isplitl [H2]; · iexact H2
  isplitl [H3] <;> iassumption

/-- The tokens, and the places the peers made free, are the right to send all the transfers. -/
theorem toSend_all : iprop(bigSep Finset.univ (tok c) ∗ bigSep Finset.univ fun d : Fin 3 => (barPay c d : sProp 𝕄))
    ⊢ (bigSepL sends (toSend c) : sProp 𝕄) := by
  rw [← bigSep_univ_eq_bigSepL sends sends_all sends_nodup (toSend c),
    show (bigSep Finset.univ fun d : Fin 3 => (barPay c d : sProp 𝕄)) = bigSep Finset.univ fun t : T => room (dM t c).view (aft c t.2.2.1) from
      (all_place fun t : T => room (dM t c).view (aft c t.2.2.1)).symm, ← bigSep_sep']
  exact bigSep_mono fun t _ => toSend_of c t

/-- The buffers a device needs for layer `l`: the places of its own rows, of the parts to send and of its weights, and the
    staged weights. -/
def needs (c : Dev nD) (l : Fin 3) : sProp 𝕄 :=
  iprop(room ((XM l).access (rT c 0)) c ∗ room ((XM l).access (rT c 1)) c ∗ bigSepL (ps l) (srcRoom c)
    ∗ room (UM.access (rU l)) c ∗ room (DM.access (rD l)) c ∗ stU m c l ∗ stW m c l)
/-- What is left of them, and of the layer's transfers. -/
def leaves (c : Dev nD) (l : Fin 3) : sProp 𝕄 :=
  iprop(bigSepL (recvL l) (got m c) ∗ bigSepL (sendL l) (back m c) ∗ wts m c l ∗ stU m c l ∗ stW m c l)

/-- The staged input. -/
abbrev stX (c : Dev nD) : sProp 𝕄 := held (Memref.whole cc0_stg0_0 : Memref sig .tc .vmem S256x256 .bf16).view c fullShare (xin m c)
/-- The staging buffer of the result. -/
abbrev oM : Memref sig .tc .vmem S256x256 .f32 := Memref.whole cc0_stg7_0

/-- The device's own name. -/
theorem wp_name {k : Dev nD → Pg F PUnit} : WP c (k c) Q₁ ⊢ WP c (.op .deviceId k) Q₁ :=
  Entails.of_eq (wp_deviceId (c := (c : Thread nD τ)) ..).symm

/-! ## What is left to send, part by part of the run -/

abbrev left8 : List T := ps 2 ++ []
abbrev left7 : List T := xs 2 1 ++ left8
abbrev left6 : List T := xs 2 0 ++ left7
abbrev left5 : List T := ps 1 ++ left6
abbrev left4 : List T := xs 1 1 ++ left5
abbrev left3 : List T := xs 1 0 ++ left4
abbrev left2 : List T := ps 0 ++ left3
abbrev left1 : List T := xs 0 1 ++ left2

set_option maxHeartbeats 1000000 in
/-- The run. -/
theorem wp_run (W : Waits sig Unit) :
    iprop(ctx m K
        ∗ (owes (c : Thread nD τ) (O₀ c) W ∗ cred (tallyAt (barCell c) () 3) ∗ atPos ER (barCell c) 0 ∅ 0
          ∗ (dutyTok ER (barCell (aft c 0)) 0 (Fin.rev 0) ∗ barPay (aft c 0) (Fin.rev 0))
          ∗ (dutyTok ER (barCell (aft c 1)) 0 (Fin.rev 1) ∗ barPay (aft c 1) (Fin.rev 1))
          ∗ (dutyTok ER (barCell (aft c 2)) 0 (Fin.rev 2) ∗ barPay (aft c 2) (Fin.rev 2)))
        ∗ bigSep Finset.univ (tok c) ∗ bigSep Finset.univ (toGet c)
        ∗ (needs m c 0 ∗ needs m c 1 ∗ needs m c 2)
        ∗ stX m c ∗ room (oM.access (rH 0)) c ∗ room (oM.access (rH 1)) c)
      ⊢ iprop((debt c [] ∗ atPos ER (barCell c) 1 ∅ 0 ∗ (leaves m c 0 ∗ leaves m c 1 ∗ leaves m c 2)
            ∗ stX m c ∗ held (oM.access (rH 0)) c fullShare (tot m 2 c 0) ∗ held (oM.access (rH 1)) c fullShare (tot m 2 c 1) -∗ Q₁ ⟨⟩)
          -∗ WP c (run (Memref.whole cc0_stg0_0) (mU 0) (mW 0) (mU 1) (mW 1) (mU 2) (mW 2) oM) Q₁) := by
  unfold run needs leaves
  simp only [Prog.lift, Prog.bind_op, Prog.bind_ret]
  rw [all_recv (toGet (F := F) c)]
  unfold recvL sendL
  simp only [bigSepL_append]
  iintro ⟨#HC, Hm, Htok, ⟨⟨GX0, GP00, GP01⟩, ⟨GX1, GP10, GP11⟩, ⟨GX2, GP20, GP21⟩⟩,
    ⟨⟨X00, X01, S0, U0, D0, A0, B0⟩, ⟨X10, X11, S1, U1, D1, A1, B1⟩, ⟨X20, X21, S2, U2, D2, A2, B2⟩⟩, Hx, O0, O1⟩ Hk
  iapply wp_name
  -- the weights
  iapply (wp_weights m 0) $$ [A0 B0 U0 D0]
  · isplitl [A0]; · iexact A0
    isplitl [B0]; · iexact B0
    isplitl [U0] <;> iassumption
  iintro ⟨A0, B0, W0⟩
  iapply (wp_weights m 1) $$ [A1 B1 U1 D1]
  · isplitl [A1]; · iexact A1
    isplitl [B1]; · iexact B1
    isplitl [U1] <;> iassumption
  iintro ⟨A1, B1, W1⟩
  iapply (wp_weights m 2) $$ [A2 B2 U2 D2]
  · isplitl [A2]; · iexact A2
    isplitl [B2]; · iexact B2
    isplitl [U2] <;> iassumption
  iintro ⟨A2, B2, W2⟩
  -- the meeting
  iapply wp_then
  iapply (wp_meet m K W) $$ [Hm]
  · isplitr; · iexact HC
    iexact Hm
  iintro ⟨HD, Hat, Hfree⟩
  ihave Hsend := toSend_all $$ [Htok Hfree]
  · isplitl [Htok] <;> iassumption
  ihave HG := (show iprop(debt c sends ∗ bigSepL sends (toSend c)) ⊢ (toGo c (xs 0 0 ++ left1) : sProp 𝕄) from .rfl) $$ [HD Hsend]
  · isplitl [HD] <;> iassumption
  -- layer 0
  iapply wp_then
  iapply (wp_loadX m 0) $$ Hx
  iintro Hx
  iapply wp_then
  iapply (wp_spread m K 0 0 left1) $$ [X00 W0 HG]
  · isplitr; · iexact HC
    isplitl [X00]; · iexact X00
    isplitl [W0] <;> iassumption
  iintro ⟨X00, W0, HG⟩
  iapply wp_then
  iapply (wp_loadX m 1) $$ Hx
  iintro Hx
  iapply wp_then
  iapply (wp_spread m K 0 1 left2) $$ [X01 W0 HG]
  · isplitr; · iexact HC
    isplitl [X01]; · iexact X01
    isplitl [W0] <;> iassumption
  iintro ⟨X01, W0, HG⟩
  iapply wp_then
  iapply (wp_serves m K 0 left3 (by decide +kernel)) $$ [GX0 S0 W0 HG]
  · isplitr; · iexact HC
    isplitl [GX0]; · iexact GX0
    isplitl [S0]; · iexact S0
    isplitl [W0] <;> iassumption
  iintro ⟨GX0, S0, W0, HG⟩
  -- layer 1
  iapply wp_then
  iapply (wp_total m K 0 0 left3 (by decide +kernel)) $$ [GP00 HG]
  · isplitr; · iexact HC
    isplitl [GP00] <;> iassumption
  iintro ⟨GP00, HG⟩
  rw [show trunc (tot m 0 c 0) = xv m 1 c 0 from rfl]
  iapply wp_then
  iapply (wp_spread m K 1 0 left4) $$ [X10 W1 HG]
  · isplitr; · iexact HC
    isplitl [X10]; · iexact X10
    isplitl [W1] <;> iassumption
  iintro ⟨X10, W1, HG⟩
  iapply wp_then
  iapply (wp_total m K 0 1 left4 (by decide +kernel)) $$ [GP01 HG]
  · isplitr; · iexact HC
    isplitl [GP01] <;> iassumption
  iintro ⟨GP01, HG⟩
  rw [show trunc (tot m 0 c 1) = xv m 1 c 1 from rfl]
  iapply wp_then
  iapply (wp_spread m K 1 1 left5) $$ [X11 W1 HG]
  · isplitr; · iexact HC
    isplitl [X11]; · iexact X11
    isplitl [W1] <;> iassumption
  iintro ⟨X11, W1, HG⟩
  iapply wp_then
  iapply (wp_serves m K 1 left6 (by decide +kernel)) $$ [GX1 S1 W1 HG]
  · isplitr; · iexact HC
    isplitl [GX1]; · iexact GX1
    isplitl [S1]; · iexact S1
    isplitl [W1] <;> iassumption
  iintro ⟨GX1, S1, W1, HG⟩
  -- layer 2
  iapply wp_then
  iapply (wp_total m K 1 0 left6 (by decide +kernel)) $$ [GP10 HG]
  · isplitr; · iexact HC
    isplitl [GP10] <;> iassumption
  iintro ⟨GP10, HG⟩
  rw [show trunc (tot m 1 c 0) = xv m 2 c 0 from rfl]
  iapply wp_then
  iapply (wp_spread m K 2 0 left7) $$ [X20 W2 HG]
  · isplitr; · iexact HC
    isplitl [X20]; · iexact X20
    isplitl [W2] <;> iassumption
  iintro ⟨X20, W2, HG⟩
  iapply wp_then
  iapply (wp_total m K 1 1 left7 (by decide +kernel)) $$ [GP11 HG]
  · isplitr; · iexact HC
    isplitl [GP11] <;> iassumption
  iintro ⟨GP11, HG⟩
  rw [show trunc (tot m 1 c 1) = xv m 2 c 1 from rfl]
  iapply wp_then
  iapply (wp_spread m K 2 1 left8) $$ [X21 W2 HG]
  · isplitr; · iexact HC
    isplitl [X21]; · iexact X21
    isplitl [W2] <;> iassumption
  iintro ⟨X21, W2, HG⟩
  iapply wp_then
  iapply (wp_serves m K 2 [] (by decide +kernel)) $$ [GX2 S2 W2 HG]
  · isplitr; · iexact HC
    isplitl [GX2]; · iexact GX2
    isplitl [S2]; · iexact S2
    isplitl [W2] <;> iassumption
  iintro ⟨GX2, S2, W2, HG⟩
  -- the result
  iapply wp_then
  iapply (wp_total m K 2 0 [] (by decide +kernel)) $$ [GP20 HG]
  · isplitr; · iexact HC
    isplitl [GP20] <;> iassumption
  iintro ⟨GP20, HG⟩
  iapply wp_then
  iapply (wp_putOut oM 0 (tot m 2 c 0)) $$ O0
  iintro O0
  iapply wp_then
  iapply (wp_total m K 2 1 [] (by decide +kernel)) $$ [GP21 HG]
  · isplitr; · iexact HC
    isplitl [GP21] <;> iassumption
  iintro ⟨GP21, HG⟩
  iapply wp_then
  iapply (wp_putOut oM 1 (tot m 2 c 1)) $$ O1
  iintro O1
  unfold toGo
  icases HG with ⟨HD, -⟩
  -- the read-outs
  iapply wp_then
  iapply (wp_dones m K 0) $$ [X00 X01 S0 HD]
  · isplitr; · iexact HC
    isplitl [X00]; · iexact X00
    isplitl [X01]; · iexact X01
    isplitl [S0] <;> iassumption
  iintro ⟨X00, X01, S0, HD⟩
  iapply wp_then
  iapply (wp_dones m K 1) $$ [X10 X11 S1 HD]
  · isplitr; · iexact HC
    isplitl [X10]; · iexact X10
    isplitl [X11]; · iexact X11
    isplitl [S1] <;> iassumption
  iintro ⟨X10, X11, S1, HD⟩
  iapply (wp_dones m K 2) $$ [X20 X21 S2 HD]
  · isplitr; · iexact HC
    isplitl [X20]; · iexact X20
    isplitl [X21]; · iexact X21
    isplitl [S2] <;> iassumption
  iintro ⟨X20, X21, S2, HD⟩
  iapply Hk
  isplitl [HD]; · iexact HD
  isplitl [Hat]; · iexact Hat
  isplitr [Hx O0 O1]
  · isplitl [GX0 GP00 GP01 X00 X01 S0 W0 A0 B0]
    · isplitl [GX0 GP00 GP01]
      · isplitl [GX0]; · iexact GX0
        isplitl [GP00] <;> iassumption
      isplitl [X00 X01 S0]
      · isplitl [X00]; · iexact X00
        isplitl [X01] <;> iassumption
      isplitl [W0]; · iexact W0
      isplitl [A0] <;> iassumption
    isplitl [GX1 GP10 GP11 X10 X11 S1 W1 A1 B1]
    · isplitl [GX1 GP10 GP11]
      · isplitl [GX1]; · iexact GX1
        isplitl [GP10] <;> iassumption
      isplitl [X10 X11 S1]
      · isplitl [X10]; · iexact X10
        isplitl [X11] <;> iassumption
      isplitl [W1]; · iexact W1
      isplitl [A1] <;> iassumption
    isplitl [GX2 GP20 GP21]
    · isplitl [GX2]; · iexact GX2
      isplitl [GP20] <;> iassumption
    isplitl [X20 X21 S2]
    · isplitl [X20]; · iexact X20
      isplitl [X21] <;> iassumption
    isplitl [W2]; · iexact W2
    isplitl [A2] <;> iassumption
  isplitl [Hx]; · iexact Hx
  isplitl [O0] <;> iassumption

end Cert.KernelIdeal.Mlp

end
-- ==== Proof.Blocks.lean ====
/-
  The buffers taken apart and put together: the gathered rows of a layer by device and half, the slots of the parts, the
  places of the weights, the halves of the result. A family of rectangles takes a buffer apart when every element says which
  rectangle it is in.
-/
module

public import proofs.«01_k».proof.Proof.Whole
public import Idealize.ShloMosaic.Lib.Ring

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable {c : Dev nD}

/-! ## In general -/

section Family
variable {s : Shape} {e : EltTy} (M : Memref sig .tc .vmem s e) {B : Type} [Fintype B] [DecidableEq B] (r : B → Rect s) (w : s.Idx → B)
  (hw : ∀ b i, i ∈ (r b).set ↔ w i = b)

include hw in
theorem family_disjoint (b b' : B) (h : b ≠ b') : Disjoint (M.access (r b)).set (M.access (r b')).set := by
  rw [show (M.access (r b)).set = (r b).set.map M.view.emb from View.set_slice _ _,
    show (M.access (r b')).set = (r b').set.map M.view.emb from View.set_slice _ _]
  refine (Finset.disjoint_map _).mpr (Finset.disjoint_left.mpr fun i hi hi' => h ?_)
  rw [← (hw b i).mp hi, ← (hw b' i).mp hi']

include hw in
theorem family_cover : Finset.univ.biUnion (fun b => (M.access (r b)).set) = M.view.set := by
  ext i
  simp only [Finset.mem_biUnion, Finset.mem_univ, true_and]
  constructor
  · rintro ⟨b, hb⟩; exact View.set_slice_subset _ _ hb
  · intro hi
    obtain ⟨x, -, rfl⟩ := Finset.mem_map.mp hi
    exact ⟨w x, by rw [show (M.access (r (w x))).set = (r (w x)).set.map M.view.emb from View.set_slice _ _]; exact Finset.mem_map_of_mem _ ((hw (w x) x).mpr rfl)⟩

/-- A block at some contents. -/
theorem room_access (b : B) : (room (M.access (r b)) c : sProp 𝕄)
    = iprop(∃ f : Buf (Elt F) (M.view.loc (c : Thread nD τ)), M.view.loc (c : Thread nD τ) ↦[(M.access (r b)).set]{fullShare} f) := rfl
theorem room_of (b : B) (f : Buf (Elt F) (M.view.loc (c : Thread nD τ))) :
    (M.view.loc (c : Thread nD τ) ↦[(M.access (r b)).set]{fullShare} f : sProp 𝕄) ⊢ room (M.access (r b)) c := by
  rw [room_access]
  iintro H; iexists f; iexact H

include hw in
/-- A buffer taken apart, -/
theorem room_split : room M.view c ⊢ (bigSep Finset.univ fun b => room (M.access (r b)) c : sProp 𝕄) := by
  refine exists_elim fun f => ?_
  exact (Entails.of_eq (Ring.pointsTo_sub_blocks (ℓ := M.view.loc (c : Thread nD τ)) (fun b => (M.access (r b)).set) (family_disjoint M r w hw) M.view.set
    (family_cover M r w hw) f)).trans (bigSep_mono fun b _ => room_of M r b f)

include hw in
/-- and put together. -/
theorem room_join (f₀ : Buf (Elt F) (M.view.loc (c : Thread nD τ))) : (bigSep Finset.univ fun b => room (M.access (r b)) c : sProp 𝕄) ⊢ room M.view c :=
  (Entails.of_eq (BI.bigSep_congr fun b _ => room_access M r b)).trans
    (Ring.pointsTo_sub_blocks_join_exists (ℓ := M.view.loc (c : Thread nD τ)) (fun b => (M.access (r b)).set) (family_disjoint M r w hw) M.view.set
      (family_cover M r w hw) f₀)

theorem none_of {A : Type} (Φ : A → sProp (MT nD τ sig Unit (Elt F) ℕ UU ℕ)) (h : ¬Nonempty A) {R : sProp (MT nD τ sig Unit (Elt F) ℕ UU ℕ)} : iprop(∃ a, Φ a) ⊢ R := by
  iintro ⟨%a, H⟩
  exact absurd ⟨a⟩ h

include hw in
/-- Put together, it reads at each block what the block read. -/
theorem held_join (f₀ : Buf (Elt F) (M.view.loc (c : Thread nD τ))) (v : (b : B) → Vec F (r b).shape e) :
    (bigSep Finset.univ fun b => held (M.access (r b)) c fullShare (v b) : sProp 𝕄)
      ⊢ iprop(∃ g : Buf (Elt F) (M.view.loc (c : Thread nD τ)), ⌜∀ b, (M.access (r b)).read (Elt F) g = v b⌝ ∗ M.view.loc (c : Thread nD τ) ↦[M.view.set]{fullShare} g) := by
  have : Nonempty (Buf (Elt F) (M.view.loc (c : Thread nD τ))) := ⟨f₀⟩
  refine (bigSep_mono fun b _ => show _ ⊢ iprop(∃ f : {f : Buf (Elt F) (M.view.loc (c : Thread nD τ)) // (M.access (r b)).read (Elt F) f = v b},
    M.view.loc (c : Thread nD τ) ↦[(M.access (r b)).set]{fullShare} f.1) from by
      unfold held
      iintro ⟨%f, %hf, H⟩
      iexists ⟨f, hf⟩
      iexact H).trans ?_
  by_cases hne : ∀ b, Nonempty {f : Buf (Elt F) (M.view.loc (c : Thread nD τ)) // (M.access (r b)).read (Elt F) f = v b}
  · refine (BI.bigSep_exists_pi Finset.univ (fun b (f : {f : Buf (Elt F) (M.view.loc (c : Thread nD τ)) // (M.access (r b)).read (Elt F) f = v b}) =>
      (M.view.loc (c : Thread nD τ) ↦[(M.access (r b)).set]{fullShare} f.1 : sProp 𝕄))).trans ?_
    iintro ⟨%fs, H⟩
    ihave H := (pointsTo_biUnion_join Finset.univ (fun b => (M.access (r b)).set) (fun b => (fs b).1) f₀ (fun b _ b' _ h => family_disjoint M r w hw b b' h)) $$ H
    icases H with ⟨%g, %hg, H⟩
    iexists g
    isplitr
    · ipureintro
      intro b
      rw [← (fs b).2]
      exact View.read_congr fun i hi => hg b (Finset.mem_univ b) i hi
    · rw [family_cover M r w hw]; iexact H
  · obtain ⟨b, hb⟩ := not_forall.mp hne
    exact (bigSep_elim (Finset.mem_univ b)).trans (none_of _ hb)
end Family

/-- The three shares of a block together are the block. -/
theorem thirds_room {s : Shape} {e : EltTy} (V : View sig .tc .vmem s e) (v : Vec F s e) :
    iprop(held V c (third 0) v ∗ held V c (third 1) v ∗ held V c (third 2) v) ⊢ (room V c : sProp 𝕄) := by
  have agree : ∀ f g : Buf (Elt F) (V.loc (c : Thread nD τ)), V.read (Elt F) f = v → V.read (Elt F) g = v → ∀ i ∈ V.set, f i = g i := by
    intro f g hf hg i hi
    obtain ⟨x, -, rfl⟩ := Finset.mem_map.mp hi
    have := congrFun (hf.trans hg.symm) x
    rw [View.read_apply, View.read_apply] at this
    exact (cast_inj _).mp this
  unfold held room third
  iintro ⟨⟨%f0, %h0, H0⟩, ⟨%f1, %h1, H1⟩, ⟨%f2, %h2, H2⟩⟩
  ihave H1 := (Entails.of_eq (pointsTo_congr (agree f1 f0 h1 h0))) $$ H1
  ihave H2 := (Entails.of_eq (pointsTo_congr (agree f2 f0 h2 h0))) $$ H2
  ihave HR := (pointsTo_share (PosShare.mem_left_op_right fullShare.right)).2 $$ [H1 H2]
  · isplitl [H1] <;> iassumption
  ihave H := (pointsTo_share (PosShare.mem_left_op_right fullShare)).2 $$ [H0 HR]
  · isplitl [H0] <;> iassumption
  iexists f0
  iexact H

/-! ## Which block an element is in -/

theorem all_two {P : Fin 2 → Prop} : (∀ a, P a) ↔ P 0 ∧ P 1 := Fin.forall_fin_two
theorem all_three {P : Fin 3 → Prop} : (∀ a, P a) ↔ P 0 ∧ P 1 ∧ P 2 := by rw [Fin.forall_fin_succ, Fin.forall_fin_two]; rfl
theorem all_four {P : Fin 4 → Prop} : (∀ a, P a) ↔ P 0 ∧ P 1 ∧ P 2 ∧ P 3 := by
  rw [Fin.forall_fin_succ, Fin.forall_fin_succ, Fin.forall_fin_two]; rfl
theorem pair_iff {n k : ℕ} (a : Fin n × Fin k) (x : Fin n) (y : Fin k) : (a.1.val = x.val ∧ a.2.val = y.val) ↔ a = (x, y) :=
  ⟨fun h => Prod.ext (Fin.ext h.1) (Fin.ext h.2), fun h => by subst h; exact ⟨rfl, rfl⟩⟩

/-- Rows of a layer: the device and the half. -/
def whichX (i : S1024x256.Idx) : Fin 4 × Fin 2 :=
  (⟨(i 0).val / 256, Nat.div_lt_of_lt_mul (i 0).isLt⟩, ⟨(i 0).val / 128 % 2, Nat.mod_lt _ (by decide)⟩)
theorem which_X (b : Dev nD × Fin 2) (i : S1024x256.Idx) : i ∈ (rT b.1 b.2).set ↔ whichX i = b := by
  obtain ⟨d, h⟩ := b
  rw [Rect.mem_set_unit, k0_off2_eq]
  have h1 : (i 1).val < 256 := (i 1).isLt
  have hd : d.val < 4 := d.isLt
  have hh := h.isLt
  refine all_two.trans (Iff.trans ?_ (pair_iff (whichX i) d h))
  show (256 * d.val + 128 * h.val ≤ (i 0).val ∧ (i 0).val < 256 * d.val + 128 * h.val + 128) ∧ (0 ≤ (i 1).val ∧ (i 1).val < 0 + 256)
    ↔ (i 0).val / 256 = d.val ∧ (i 0).val / 128 % 2 = h.val
  omega

/-- Slots: the layer and the place. -/
def whichP (i : S3x6x128x256.Idx) : Fin 3 × Fin 6 := (⟨(i 0).val, (i 0).isLt⟩, ⟨(i 1).val, (i 1).isLt⟩)
theorem which_P (b : Fin 3 × Fin 6) (i : S3x6x128x256.Idx) : i ∈ (rP b.1 b.2).set ↔ whichP i = b := by
  obtain ⟨l, p⟩ := b
  rw [Rect.mem_set_unit]
  have h2 : (i 2).val < 128 := (i 2).isLt
  have h3 : (i 3).val < 256 := (i 3).isLt
  refine all_four.trans (Iff.trans ?_ (pair_iff (whichP i) l p))
  show (l.val ≤ (i 0).val ∧ (i 0).val < l.val + 1) ∧ (p.val ≤ (i 1).val ∧ (i 1).val < p.val + 1)
      ∧ (0 ≤ (i 2).val ∧ (i 2).val < 0 + 128) ∧ (0 ≤ (i 3).val ∧ (i 3).val < 0 + 256)
    ↔ (i 0).val = l.val ∧ (i 1).val = p.val
  omega

/-- Weights: the layer. -/
def whichU (i : S3x256x512.Idx) : Fin 3 := ⟨(i 0).val, (i 0).isLt⟩
theorem which_U (l : Fin 3) (i : S3x256x512.Idx) : i ∈ (rU l).set ↔ whichU i = l := by
  rw [Rect.mem_set_unit]
  have h1 : (i 1).val < 256 := (i 1).isLt
  have h2 : (i 2).val < 512 := (i 2).isLt
  refine all_three.trans (Iff.trans ?_ Fin.ext_iff.symm)
  show (l.val ≤ (i 0).val ∧ (i 0).val < l.val + 1) ∧ (0 ≤ (i 1).val ∧ (i 1).val < 0 + 256) ∧ (0 ≤ (i 2).val ∧ (i 2).val < 0 + 512)
    ↔ (i 0).val = l.val
  omega
def whichD (i : S3x512x256.Idx) : Fin 3 := ⟨(i 0).val, (i 0).isLt⟩
theorem which_D (l : Fin 3) (i : S3x512x256.Idx) : i ∈ (rD l).set ↔ whichD i = l := by
  rw [Rect.mem_set_unit]
  have h1 : (i 1).val < 512 := (i 1).isLt
  have h2 : (i 2).val < 256 := (i 2).isLt
  refine all_three.trans (Iff.trans ?_ Fin.ext_iff.symm)
  show (l.val ≤ (i 0).val ∧ (i 0).val < l.val + 1) ∧ (0 ≤ (i 1).val ∧ (i 1).val < 0 + 512) ∧ (0 ≤ (i 2).val ∧ (i 2).val < 0 + 256)
    ↔ (i 0).val = l.val
  omega

/-- Halves. -/
def whichH (i : S256x256.Idx) : Fin 2 := ⟨(i 0).val / 128, Nat.div_lt_of_lt_mul (i 0).isLt⟩
theorem which_H (h : Fin 2) (i : S256x256.Idx) : i ∈ (rH h).set ↔ whichH i = h := by
  rw [Rect.mem_set_unit]
  have h1 : (i 1).val < 256 := (i 1).isLt
  refine all_two.trans (Iff.trans ?_ Fin.ext_iff.symm)
  show (128 * h.val ≤ (i 0).val ∧ (i 0).val < 128 * h.val + 128) ∧ (0 ≤ (i 1).val ∧ (i 1).val < 0 + 256) ↔ (i 0).val / 128 = h.val
  omega

/-! ## A device's blocks -/

/-- The rows of a layer, a device's own first. -/
def rowsOf (c : Dev nD) : Fin 2 ⊕ (Fin 3 × Fin 2) → Dev nD × Fin 2
  | .inl h => (c, h)
  | .inr (j, h) => (bef c j, h)
theorem rowsOf_bijective : ∀ c, Function.Bijective (rowsOf c) := by decide +kernel
/-- The slots, by place and half. -/
def slotsOf (x : Fin 3 × Fin 3 × Fin 2) : Fin 3 × Fin 6 := (x.1, pl x.2.1 x.2.2)
theorem slotsOf_bijective : Function.Bijective slotsOf := by decide +kernel

/-- The place where a transfer to the device lands. -/
def landRoom (c : Dev nD) (t : T) : sProp 𝕄 := room (dM t (bef c t.2.2.1)).view c

/-- The rows of a layer, block by block. -/
theorem rows_eq (Φ : Dev nD × Fin 2 → sProp 𝕄) :
    bigSep Finset.univ Φ = iprop((bigSep Finset.univ fun h : Fin 2 => Φ (c, h)) ∗ bigSep Finset.univ fun x : Fin 3 × Fin 2 => Φ (bef c x.1, x.2)) := by
  rw [bigSep_univ_equiv (Equiv.ofBijective _ (rowsOf_bijective c)) Φ, bigSep_univ_sum]; rfl
theorem slots_eq (Φ : Fin 3 × Fin 6 → sProp 𝕄) :
    bigSep Finset.univ Φ = bigSep Finset.univ fun x : Fin 3 × Fin 3 × Fin 2 => Φ (x.1, pl x.2.1 x.2.2) := by
  rw [bigSep_univ_equiv (Equiv.ofBijective _ slotsOf_bijective) Φ]; rfl

theorem split_X (l : Fin 3) : room (XM l).view c
    ⊢ (iprop((bigSep Finset.univ fun h : Fin 2 => room ((XM l).access (rT c h)) c) ∗ bigSep Finset.univ fun x : Fin 3 × Fin 2 => landRoom c (false, l, x.1, x.2)) : sProp 𝕄) :=
  (room_split (XM l) (fun b : Dev nD × Fin 2 => rT b.1 b.2) whichX which_X).trans (Entails.of_eq (rows_eq fun b => room ((XM l).access (rT b.1 b.2)) c))
theorem split_R : room RM.view c ⊢ (bigSep Finset.univ fun x : Fin 3 × Fin 3 × Fin 2 => landRoom c (true, x) : sProp 𝕄) :=
  (room_split RM (fun b : Fin 3 × Fin 6 => rP b.1 b.2) whichP which_P).trans ((Entails.of_eq (slots_eq fun b => room (RM.access (rP b.1 b.2)) c)).trans
    (bigSep_mono fun x _ => Entails.of_eq (room_slot (RM.access (rP x.1 (pl x.2.1 x.2.2))) squeezes_S1x1x128x256_S128x256.numel_eq c).symm))
theorem split_S : room SM.view c ⊢ (bigSep Finset.univ fun x : Fin 3 × Fin 3 × Fin 2 => srcRoom c (true, x) : sProp 𝕄) :=
  (room_split SM (fun b : Fin 3 × Fin 6 => rP b.1 b.2) whichP which_P).trans ((Entails.of_eq (slots_eq fun b => room (SM.access (rP b.1 b.2)) c)).trans
    (bigSep_mono fun x _ => Entails.of_eq (room_slot (SM.access (rP x.1 (pl x.2.1 x.2.2))) squeezes_S1x1x128x256_S128x256.numel_eq c).symm))
theorem split_U : room UM.view c ⊢ (bigSep Finset.univ fun l : Fin 3 => room (UM.access (rU l)) c : sProp 𝕄) :=
  room_split UM rU whichU which_U
theorem split_D : room DM.view c ⊢ (bigSep Finset.univ fun l : Fin 3 => room (DM.access (rD l)) c : sProp 𝕄) :=
  room_split DM rD whichD which_D
theorem split_O : room oM.view c ⊢ (bigSep Finset.univ fun h : Fin 2 => room (oM.access (rH h)) c : sProp 𝕄) :=
  room_split oM rH whichH which_H

/-- Three places and two halves, halves first. -/
theorem halves_first (Φ : Fin 3 → Fin 2 → sProp 𝕄) :
    bigSep Finset.univ (fun x : Fin 3 × Fin 2 => Φ x.1 x.2) = bigSep Finset.univ fun h : Fin 2 => bigSep Finset.univ fun j : Fin 3 => Φ j h := by
  rw [bigSep_univ_equiv (Equiv.prodComm (Fin 2) (Fin 3)), bigSep_univ_prod]; rfl
theorem three (Φ : Fin 3 → sProp 𝕄) : bigSep Finset.univ Φ = iprop(Φ 0 ∗ Φ 1 ∗ Φ 2) := bigSep_univ_eq_bigSepL [0, 1, 2] (by decide) (by decide) Φ

theorem join_X (l : Fin 3) : iprop((bigSep Finset.univ fun x : Fin 3 × Fin 2 => outPay m c (false, l, x.1, x.2)) ∗ bigSep Finset.univ fun x : Fin 3 × Fin 2 => inPay m c (false, l, x.1, x.2))
    ⊢ (room (XM l).view c : sProp 𝕄) := by
  refine .trans ?_ (room_join (XM l) (fun b : Dev nD × Fin 2 => rT b.1 b.2) whichX which_X (m _))
  rw [rows_eq (c := c) fun b => room ((XM l).access (rT b.1 b.2)) c]
  refine BI.sep_mono ?_ (bigSep_mono fun x _ => held_room _ _ _)
  rw [halves_first fun j h => outPay m c (false, l, j, h)]
  refine bigSep_mono fun h _ => ?_
  rw [three]
  exact thirds_room ((XM l).access (rT c h)) (xv m l c h)
theorem join_R : (bigSep Finset.univ fun x : Fin 3 × Fin 3 × Fin 2 => inPay m c (true, x)) ⊢ (room RM.view c : sProp 𝕄) := by
  refine .trans ?_ (room_join RM (fun b : Fin 3 × Fin 6 => rP b.1 b.2) whichP which_P (m _))
  rw [slots_eq fun b => room (RM.access (rP b.1 b.2)) c]
  exact bigSep_mono fun x _ => (held_room _ _ _).trans (Entails.of_eq (room_slot (RM.access (rP x.1 (pl x.2.1 x.2.2))) squeezes_S1x1x128x256_S128x256.numel_eq c))
theorem join_S : (bigSep Finset.univ fun x : Fin 3 × Fin 3 × Fin 2 => outPay m c (true, x)) ⊢ (room SM.view c : sProp 𝕄) := by
  refine .trans ?_ (room_join SM (fun b : Fin 3 × Fin 6 => rP b.1 b.2) whichP which_P (m _))
  rw [slots_eq fun b => room (SM.access (rP b.1 b.2)) c]
  exact bigSep_mono fun x _ => (held_room _ _ _).trans (Entails.of_eq (room_slot (SM.access (rP x.1 (pl x.2.1 x.2.2))) squeezes_S1x1x128x256_S128x256.numel_eq c))
theorem join_U : (bigSep Finset.univ fun l : Fin 3 => held (UM.access (rU l)) c fullShare (k0_pay1 (uin m c l))) ⊢ (room UM.view c : sProp 𝕄) :=
  (bigSep_mono fun l _ => held_room _ _ _).trans (room_join UM rU whichU which_U (m _))
theorem join_D : (bigSep Finset.univ fun l : Fin 3 => held (DM.access (rD l)) c fullShare (k0_pay2 (win m c l))) ⊢ (room DM.view c : sProp 𝕄) :=
  (bigSep_mono fun l _ => held_room _ _ _).trans (room_join DM rD whichD which_D (m _))

/-! ## The result -/

/-- The place of an element in its half. -/
def inHalf (i : S256x256.Idx) : S128x256.Idx := Fin.cons ⟨(i 0).val % 128, Nat.mod_lt _ (by decide)⟩ (Fin.cons (i 1) (fun a => a.elim0))
theorem rH_idx (i : S256x256.Idx) : (rH (whichH i)).idx (inHalf i) = i := by
  refine funext (all_two.mpr ⟨Fin.ext ?_, Fin.ext ?_⟩)
  · show 128 * ((i 0).val / 128) + 1 * ((i 0).val % 128) = (i 0).val
    omega
  · show 0 + 1 * (i 1).val = (i 1).val
    omega

/-- A device's block of the result. -/
def outv (c : Dev nD) : Vec F S256x256 .f32 := fun i => tot m 2 c (whichH i) (inHalf i)

/-- The two halves stored are the block. -/
theorem join_O : iprop(held (oM.access (rH 0)) c fullShare (tot m 2 c 0) ∗ held (oM.access (rH 1)) c fullShare (tot m 2 c 1))
    ⊢ (held oM.view c fullShare (outv m c) : sProp 𝕄) := by
  refine (Entails.of_eq (bigSep_univ_two fun h : Fin 2 => held (oM.access (rH h)) c fullShare (tot m 2 c h)).symm).trans
    ((held_join oM rH whichH which_H (m _) fun h => tot m 2 c h).trans ?_)
  unfold held
  iintro ⟨%g, %hg, H⟩
  iexists g
  isplitr
  · ipureintro
    funext i
    show g i = tot m 2 c (whichH i) (inHalf i)
    rw [← hg (whichH i)]
    show g i = g ((rH (whichH i)).idx (inHalf i))
    rw [rH_idx]
  · iexact H

end Cert.KernelIdeal.Mlp

end
-- ==== Proof.Assemble.lean ====
/-
  What a device's run begins with, made of its seven buffers whole, and what it ends with, made into them again; and its
  semaphores given back.
-/
module

public import proofs.«01_k».proof.Proof.Blocks

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cl → ℕ) {c : Dev nD}

/-! ## Conjunctions over the transfers and the cells -/

/-- Something of every transfer: the activations layer by layer, and the parts. -/
theorem all_kinds (Φ : T → sProp 𝕄) : bigSep Finset.univ Φ
    = iprop((bigSep Finset.univ fun l : Fin 3 => bigSep Finset.univ fun x : Fin 3 × Fin 2 => Φ (false, l, x.1, x.2))
        ∗ bigSep Finset.univ fun x : Fin 3 × Fin 3 × Fin 2 => Φ (true, x)) := by
  rw [bigSep_univ_prod, bigSep_univ_eq_bigSepL [false, true] (by decide) (by decide)]
  show iprop((bigSep Finset.univ fun y : Fin 3 × Fin 3 × Fin 2 => Φ (false, y)) ∗ bigSep Finset.univ fun x : Fin 3 × Fin 3 × Fin 2 => Φ (true, x)) = _
  rw [bigSep_univ_prod (fun y : Fin 3 × Fin 3 × Fin 2 => Φ (false, y))]

/-- Something of every part of a layer, in the order of the sends. -/
theorem all_parts (l : Fin 3) (Φ : T → sProp 𝕄) : (bigSep Finset.univ fun x : Fin 3 × Fin 2 => Φ (true, l, x.1, x.2)) = bigSepL (ps l) Φ :=
  bigSep_univ_eq_bigSepL [((2 : Fin 3), (0 : Fin 2)), (0, 0), (2, 1), (0, 1), (1, 0), (1, 1)] (by decide) (by decide)
    fun x : Fin 3 × Fin 2 => Φ (true, l, x.1, x.2)

/-- Something of every cell: the meeting's, and the transfers'. -/
theorem all_cells (Φ : Cl → sProp 𝕄) : bigSep Finset.univ Φ = iprop((bigSep Finset.univ fun k : Bool × T => Φ (some k)) ∗ Φ none) := by
  rw [bigSep_univ_equiv (Equiv.optionEquivSumPUnit.{0} (Bool × T)).symm Φ, bigSep_univ_sum, bigSep_univ_eq_bigSepL [PUnit.unit] (by decide) (by decide)]
  rfl
/-- The transfers' cells: the read-outs and the landings. -/
theorem all_sides (Φ : Bool × T → sProp 𝕄) :
    bigSep Finset.univ Φ = iprop((bigSep Finset.univ fun t : T => Φ (false, t)) ∗ bigSep Finset.univ fun t : T => Φ (true, t)) := by
  rw [bigSep_univ_prod, bigSep_univ_eq_bigSepL [false, true] (by decide) (by decide)]
  rfl

/-! ## The beginning -/

/-- A device's seven buffers. -/
def bufs (c : Dev nD) : sProp 𝕄 :=
  iprop(room (XM 0).view c ∗ room (XM 1).view c ∗ room (XM 2).view c ∗ room RM.view c ∗ room SM.view c ∗ room UM.view c ∗ room DM.view c)

/-- The places of a layer that the device itself uses. -/
def places (c : Dev nD) (l : Fin 3) : sProp 𝕄 :=
  iprop(room ((XM l).access (rT c 0)) c ∗ room ((XM l).access (rT c 1)) c ∗ bigSepL (ps l) (srcRoom c)
    ∗ room (UM.access (rU l)) c ∗ room (DM.access (rD l)) c)

/-- The places that a peer may write are what the device tells it. -/
theorem land_pay (c : Dev nD) (i j : Fin 3) (hj : j = i.rev) :
    (bigSep Finset.univ fun k : Bool × Fin 3 × Fin 2 => (landRoom c (k.1, k.2.1, j, k.2.2) : sProp 𝕄)) = barPay (aft c i) i.rev := by
  subst hj
  have h1 : bef c i.rev = aft c i := by revert c i; decide
  have h2 : aft (aft c i) i.rev = c := aft_aft_rev c i
  refine bigSep_congr fun k _ => ?_
  unfold landRoom
  show room (dM _ (bef c i.rev)).view c = room (dM _ (aft c i)).view (aft (aft c i) i.rev)
  rw [h1, h2]

theorem land_all : (bigSep Finset.univ fun t : T => (landRoom c t : sProp 𝕄))
    ⊢ iprop(barPay (aft c 0) (Fin.rev 0) ∗ barPay (aft c 1) (Fin.rev 1) ∗ barPay (aft c 2) (Fin.rev 2)) := by
  rw [all_place, three, land_pay c 2 0 (by decide), land_pay c 1 1 (by decide), land_pay c 0 2 (by decide)]
  iintro ⟨H0, H1, H2⟩
  isplitl [H2]; · iexact H2
  isplitl [H1] <;> iassumption

/-- The buffers taken apart. -/
theorem begin : bufs c ⊢ (iprop((bigSep Finset.univ fun t : T => landRoom c t) ∗ places c 0 ∗ places c 1 ∗ places c 2) : sProp 𝕄) := by
  unfold bufs places
  rw [all_kinds (landRoom (F := F) c), three]
  iintro ⟨X0, X1, X2, R, S, U, D⟩
  ihave X0 := (split_X 0) $$ X0
  ihave X1 := (split_X 1) $$ X1
  ihave X2 := (split_X 2) $$ X2
  ihave R := split_R $$ R
  ihave S := (split_S.trans (Entails.of_eq ((bigSep_univ_prod _).trans ((three _).trans (by
    rw [all_parts 0 (srcRoom (F := F) c), all_parts 1 (srcRoom (F := F) c), all_parts 2 (srcRoom (F := F) c)]))))) $$ S
  ihave U := (split_U.trans (Entails.of_eq (three _))) $$ U
  ihave D := (split_D.trans (Entails.of_eq (three _))) $$ D
  rw [bigSep_univ_two, bigSep_univ_two, bigSep_univ_two]
  icases X0 with ⟨⟨A0, B0⟩, L0⟩
  icases X1 with ⟨⟨A1, B1⟩, L1⟩
  icases X2 with ⟨⟨A2, B2⟩, L2⟩
  icases S with ⟨S0, S1, S2⟩
  icases U with ⟨U0, U1, U2⟩
  icases D with ⟨D0, D1, D2⟩
  isplitl [L0 L1 L2 R]
  · isplitr [R]
    · isplitl [L0]; · iexact L0
      isplitl [L1] <;> iassumption
    · iexact R
  isplitl [A0 B0 S0 U0 D0]
  · isplitl [A0]; · iexact A0
    isplitl [B0]; · iexact B0
    isplitl [S0]; · iexact S0
    isplitl [U0] <;> iassumption
  isplitl [A1 B1 S1 U1 D1]
  · isplitl [A1]; · iexact A1
    isplitl [B1]; · iexact B1
    isplitl [S1]; · iexact S1
    isplitl [U1] <;> iassumption
  · isplitl [A2]; · iexact A2
    isplitl [B2]; · iexact B2
    isplitl [S2]; · iexact S2
    isplitl [U2] <;> iassumption

/-! ## The end -/

/-- What the transfers handed back, and the weights, are the buffers again. -/
theorem done : iprop((bigSep Finset.univ (inPay m c)) ∗ (bigSep Finset.univ (outPay m c)) ∗ wts m c 0 ∗ wts m c 1 ∗ wts m c 2) ⊢ (bufs c : sProp 𝕄) := by
  unfold bufs wts
  rw [all_kinds (inPay m c), all_kinds (outPay m c), three, three]
  iintro ⟨⟨⟨I0, I1, I2⟩, R⟩, ⟨⟨J0, J1, J2⟩, S⟩, ⟨U0, D0⟩, ⟨U1, D1⟩, U2, D2⟩
  isplitl [I0 J0]
  · iapply (join_X m 0); isplitl [J0] <;> iassumption
  isplitl [I1 J1]
  · iapply (join_X m 1); isplitl [J1] <;> iassumption
  isplitl [I2 J2]
  · iapply (join_X m 2); isplitl [J2] <;> iassumption
  isplitl [R]; · iapply (join_R m); iexact R
  isplitl [S]; · iapply (join_S m); iexact S
  isplitl [U0 U1 U2]
  · iapply (join_U m); rw [three]
    isplitl [U0]; · iexact U0
    isplitl [U1] <;> iassumption
  · iapply (join_D m); rw [three]
    isplitl [D0]; · iexact D0
    isplitl [D1] <;> iassumption

/-- Something that everyone may use turns every member of a conjunction. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell past its round gives its semaphore back at zero. -/
theorem close_one (k : Cl) : iprop(records m K ∗ atPos ER (kcell (c, k)) 1 ∅ 0) ⊢ (iprop(|={Set.univ}=> semVal (kcell (c, k)) 0) : sProp 𝕄) :=
  (sep_mono_left (inv_at m K c k)).trans (Rounds.cell_close ER (sched m) (Set.mem_univ _) (fun h => h) (R := 1) (duties_later m (kcell (c, k))))
/-- So do they all. -/
theorem close_all : iprop(records m K ∗ bigSep Finset.univ fun k : Cl => atPos ER (kcell (c, k)) 1 ∅ 0)
    ⊢ (iprop(|={Set.univ}=> bigSep Finset.univ fun k : Cl => semVal (kcell (c, k)) 0) : sProp 𝕄) :=
  (bigSep_using fun k _ => close_one m K k).trans (bigSep_fupd _ _)

theorem all_got : (bigSep Finset.univ (got m c) : sProp 𝕄)
    = iprop(bigSep Finset.univ (inPay m c) ∗ bigSep Finset.univ fun t : T => atPos ER (inCell c t) 1 ∅ 0) := by
  unfold got; exact bigSep_sep' _ _ _
theorem all_back : (bigSep Finset.univ (back m c) : sProp 𝕄)
    = iprop(bigSep Finset.univ (outPay m c) ∗ bigSep Finset.univ fun t : T => atPos ER (outCell c t) 1 ∅ 0) := by
  unfold back; exact bigSep_sep' _ _ _

/-- The layers' leavings: the buffers, and every transfer's cells past their round. -/
theorem leavings : iprop(leaves m c 0 ∗ leaves m c 1 ∗ leaves m c 2)
    ⊢ (iprop(bufs c ∗ (bigSep Finset.univ fun t : T => atPos ER (inCell c t) 1 ∅ 0) ∗ (bigSep Finset.univ fun t : T => atPos ER (outCell c t) 1 ∅ 0)
        ∗ (stU m c 0 ∗ stU m c 1 ∗ stU m c 2) ∗ (stW m c 0 ∗ stW m c 1 ∗ stW m c 2)) : sProp 𝕄) := by
  unfold leaves
  iintro ⟨⟨G0, B0, W0, U0, D0⟩, ⟨G1, B1, W1, U1, D1⟩, G2, B2, W2, U2, D2⟩
  ihave G := (Entails.of_eq ((all_recv (got m c)).symm.trans (all_got m))) $$ [G0 G1 G2]
  · isplitl [G0]; · iexact G0
    isplitl [G1] <;> iassumption
  ihave B := (Entails.of_eq ((all_send (back m c)).symm.trans (all_back m))) $$ [B0 B1 B2]
  · isplitl [B0]; · iexact B0
    isplitl [B1] <;> iassumption
  icases G with ⟨GI, GA⟩
  icases B with ⟨BO, BA⟩
  isplitl [GI BO W0 W1 W2]
  · iapply (done m)
    isplitl [GI]; · iexact GI
    isplitl [BO]; · iexact BO
    isplitl [W0]; · iexact W0
    isplitl [W1] <;> iassumption
  isplitl [GA]; · iexact GA
  isplitl [BA]; · iexact BA
  isplitl [U0 U1 U2]
  · isplitl [U0]; · iexact U0
    isplitl [U1] <;> iassumption
  · isplitl [D0]; · iexact D0
    isplitl [D1] <;> iassumption

end Cert.KernelIdeal.Mlp

end
-- ==== Proof.ProgramEq.lean ====
/-
  The folded run of `Proof/Program.lean` is the printed body: both unfold to the same operations in the same order.
-/
module

public import proofs.«01_k».proof.Proof.Program

@[expose] public section

noncomputable section

namespace Cert.KernelIdeal.Mlp

open Cert.KernelIdeal Cert.KernelIdeal.Gen
open Idealize.ShloMosaic Idealize.SL.Sem

variable {F : FTy → Type} [FloatOps F]

set_option maxRecDepth 100000 in
set_option maxHeartbeats 4000000 in
/-- The folded run is the printed body. -/
theorem body_eq (x : Memref sig .tc .vmem S256x256 .bf16) (hx : x.IsWhole) (u0 : Memref sig .tc .vmem S256x512 .bf16) (hu0 : u0.IsWhole)
    (w0 : Memref sig .tc .vmem S512x256 .bf16) (hw0 : w0.IsWhole) (u1 : Memref sig .tc .vmem S256x512 .bf16) (hu1 : u1.IsWhole)
    (w1 : Memref sig .tc .vmem S512x256 .bf16) (hw1 : w1.IsWhole) (u2 : Memref sig .tc .vmem S256x512 .bf16) (hu2 : u2.IsWhole)
    (w2 : Memref sig .tc .vmem S512x256 .bf16) (hw2 : w2.IsWhole) (o : Memref sig .tc .vmem S256x256 .f32) (ho : o.IsWhole) :
    cc0_body x hx u0 hu0 w0 hw0 u1 hu1 w1 hw1 u2 hu2 w2 hw2 o ho (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _) cc0_scratch7 cc0_scratch8
      = run (F := F) x u0 w0 u1 w1 u2 w2 o := by
  with_unfolding_all rfl

end Cert.KernelIdeal.Mlp

end
-- ==== Proof.Body.lean ====
/-
  The body of the kernel on one device as the pipeline runs it: what it starts from, what it leaves, and that it does.
-/
module

public import proofs.«01_k».proof.Proof.Assemble
public import proofs.«01_k».proof.Proof.ProgramEq

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the pipeline -/

/-- The tokens and the place in the protocol that a device holds from the launch on. -/
def hand (c : Dev nD) : sProp 𝕄 :=
  iprop(atPos ER (barCell c) 0 ∅ 0
    ∗ (dutyTok ER (barCell (aft c 0)) 0 (Fin.rev 0) ∗ dutyTok ER (barCell (aft c 1)) 0 (Fin.rev 1) ∗ dutyTok ER (barCell (aft c 2)) 0 (Fin.rev 2))
    ∗ bigSep Finset.univ (tok c) ∗ bigSep Finset.univ fun t : T => atPos ER (inCell c t) 0 ∅ 0)

/-- What a device's body starts from, its buffers apart: the cells' records, its hand, what will be credited to it, and the levels. -/
def start (c : Dev nD) : sProp 𝕄 :=
  iprop((∃ K, records m K ∗ hand c) ∗ (cred (tallyAt (barCell c) () 3) ∗ bigSep Finset.univ fun t : T => cred (tallyAt (inCell c t) () N)) ∗ levAts L lv)

/-- Before, -/
def Φ₀ (c : Dev nD) : sProp 𝕄 := iprop(start m c ∗ bufs c)
/-- and after: the buffers, and every semaphore at zero. -/
def Φ₁ (c : Dev nD) : sProp 𝕄 :=
  iprop(bufs c ∗ (bigSep Finset.univ fun k : Bool × T => semVal (kcell (c, some k)) 0) ∗ semVal (barCell c) 0)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c (0 : Fin 8) t
    | ⟨1, _⟩ => iblk m c (1 : Fin 8) t
    | ⟨2, _⟩ => iblk m c (2 : Fin 8) t
    | ⟨3, _⟩ => iblk m c (3 : Fin 8) t
    | ⟨4, _⟩ => iblk m c (4 : Fin 8) t
    | ⟨5, _⟩ => iblk m c (5 : Fin 8) t
    | ⟨6, _⟩ => iblk m c (6 : Fin 8) t
    | ⟨7, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staged input is the block of the array. -/
theorem before_in (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dats m ρ 0 c).after w t) = (dats m ρ 0 c).blockOf w t) (t : Fin cfg0.N) (d)
    (v : (cfg0.win w).block.Idx → Elt F (cfg0.win w).elt) (hv : (dats m ρ 0 c).fetched w t d = v) : (dats m ρ 0 c).before w t d = v :=
  ((dats m ρ 0 c).before_in_eq_fetched w hw hlive hclip hkeep t d).trans hv

theorem before_0 (c : Dev nD) (d) : (dats m ρ 0 c).before (0 : Fin 8) t0_0 d = xin m c := before_in m ρ c 0 rfl (fun _ => rfl) (fun _ _ _ => rfl) (fun _ => rfl) _ d _ rfl
theorem before_1 (c : Dev nD) (d) : (dats m ρ 0 c).before (1 : Fin 8) t0_0 d = uin m c 0 := before_in m ρ c 1 rfl (fun _ => rfl) (fun _ _ _ => rfl) (fun _ => rfl) _ d _ rfl
theorem before_2 (c : Dev nD) (d) : (dats m ρ 0 c).before (2 : Fin 8) t0_0 d = win m c 0 := before_in m ρ c 2 rfl (fun _ => rfl) (fun _ _ _ => rfl) (fun _ => rfl) _ d _ rfl
theorem before_3 (c : Dev nD) (d) : (dats m ρ 0 c).before (3 : Fin 8) t0_0 d = uin m c 1 := before_in m ρ c 3 rfl (fun _ => rfl) (fun _ _ _ => rfl) (fun _ => rfl) _ d _ rfl
theorem before_4 (c : Dev nD) (d) : (dats m ρ 0 c).before (4 : Fin 8) t0_0 d = win m c 1 := before_in m ρ c 4 rfl (fun _ => rfl) (fun _ _ _ => rfl) (fun _ => rfl) _ d _ rfl
theorem before_5 (c : Dev nD) (d) : (dats m ρ 0 c).before (5 : Fin 8) t0_0 d = uin m c 2 := before_in m ρ c 5 rfl (fun _ => rfl) (fun _ _ _ => rfl) (fun _ => rfl) _ d _ rfl
theorem before_6 (c : Dev nD) (d) : (dats m ρ 0 c).before (6 : Fin 8) t0_0 d = win m c 2 := before_in m ρ c 6 rfl (fun _ => rfl) (fun _ _ _ => rfl) (fun _ => rfl) _ d _ rfl

/-! ## The obligation -/

/-- The staged inputs, and the staging buffer of the result as `R` says. -/
def staged (c : Dev nD) (R : sProp 𝕄) : sProp 𝕄 :=
  iprop(stX m c ∗ stU m c 0 ∗ stW m c 0 ∗ stU m c 1 ∗ stW m c 1 ∗ stU m c 2 ∗ stW m c 2 ∗ R)

/-- What the pipeline gives the body, -/
def bodyPre (c : Dev nD) : sProp 𝕄 := iprop(Φ₀ m c ∗ (dats m ρ 0 c).owesAt () t0_0.castSucc ∗ staged m c (room oM.view c))
/-- and what it takes back. -/
def bodyPost (c : Dev nD) : sProp 𝕄 := iprop(Φ₁ c ∗ (dats m ρ 0 c).owesAt () t0_0.succ ∗ staged m c (held oM.view c fullShare (outv m c)))

/-- The run makes the one the other, up to an update of what is shared. -/
theorem body_end (K : Dev nD × Cl → ℕ) (c : Dev nD) :
    iprop(records m K ∗ debt c [] ∗ atPos ER (barCell c) 1 ∅ 0 ∗ (leaves m c 0 ∗ leaves m c 1 ∗ leaves m c 2)
            ∗ stX m c ∗ held (oM.access (rH 0)) c fullShare (tot m 2 c 0) ∗ held (oM.access (rH 1)) c fullShare (tot m 2 c 1))
      ⊢ (iprop(|={Set.univ}=> bodyPost m ρ c) : sProp 𝕄) := by
  unfold bodyPost staged Φ₁
  iintro ⟨#HR, HD, Hbar, Hl, Hx, O0, O1⟩
  ihave Hl := (leavings m) $$ Hl
  icases Hl with ⟨Hb, Hin, Hout, ⟨U0, U1, U2⟩, W0, W1, W2⟩
  ihave Ho := (join_O m) $$ [O0 O1]
  · isplitl [O0] <;> iassumption
  ihave Hat := (Entails.of_eq ((all_cells fun k : Cl => (atPos ER (kcell (c, k)) 1 ∅ 0 : sProp 𝕄)).trans (by rw [all_sides])).symm) $$ [Hin Hout Hbar]
  · isplitl [Hin Hout]
    · isplitl [Hout]; · iexact Hout
      iexact Hin
    · iexact Hbar
  imod (close_all m K) $$ [Hat] with Hz
  · isplitr; · iexact HR
    iexact Hat
  ihave Hz := (Entails.of_eq (all_cells fun k : Cl => (semVal (kcell (c, k)) 0 : sProp 𝕄))) $$ Hz
  imodintro
  isplitl [Hb Hz]
  · isplitl [Hb]; · iexact Hb
    iexact Hz
  isplitl [HD]
  · unfold Dat.owesAt Pipeline.owesWithin debt
    rw [show (dats m ρ 0 c).owed t0_0.succ = 0 from rfl]
    icases HD with ⟨%W, HD⟩
    iexists W
    isplitr; · ipureintro; exact fun _ _ => Or.inl trivial
    iexact HD
  isplitl [Hx]; · iexact Hx
  isplitl [U0]; · iexact U0
  isplitl [W0]; · iexact W0
  isplitl [U1]; · iexact U1
  isplitl [W1]; · iexact W1
  isplitl [U2]; · iexact U2
  isplitl [W2]; · iexact W2
  iexact Ho

/-- The whole run, from the one to the other. -/
theorem body_run (c : Dev nD) :
    bodyPre m ρ c ⊢ WP c (run (F := F) (Memref.whole cc0_stg0_0) (mU 0) (mW 0) (mU 1) (mW 1) (mU 2) (mW 2) oM) (fun _ => bodyPost m ρ c) := by
  refine .trans ?_ (wp_fupd _ _ _ _ _)
  unfold bodyPre staged Φ₀ start hand Dat.owesAt Pipeline.owesWithin
  rw [show (dats m ρ 0 c).owed t0_0.castSucc = O₀ c from rfl]
  iintro ⟨⟨⟨⟨%K, #HR, Hbar, ⟨T0, T1, T2⟩, Htok, Hat⟩, ⟨Hcb, Hcs⟩, #HL⟩, Hb⟩, ⟨%W, -, HO⟩, Hx, U0, W0, U1, W1, U2, W2, Ho⟩
  ihave Hb := begin $$ Hb
  icases Hb with ⟨Hland, P0, P1, P2⟩
  ihave Hland := land_all $$ Hland
  icases Hland with ⟨L0, L1, L2⟩
  ihave Ho := (split_O.trans (Entails.of_eq (bigSep_univ_two _))) $$ Ho
  icases Ho with ⟨O0, O1⟩
  ihave Hget := (show iprop((bigSep Finset.univ fun t : T => cred (tallyAt (inCell c t) () N)) ∗ bigSep Finset.univ fun t : T => atPos ER (inCell c t) 0 ∅ 0)
      ⊢ (bigSep Finset.univ (toGet c) : sProp 𝕄) from by rw [← bigSep_sep']; exact .rfl) $$ [Hcs Hat]
  · isplitl [Hcs] <;> iassumption
  unfold places
  iapply (wp_run m K W) $$ [HO Hcb Hbar T0 T1 T2 L0 L1 L2 Htok Hget P0 P1 P2 U0 W0 U1 W1 U2 W2 Hx O0 O1]
  · unfold ctx needs
    isplitr
    · isplitr; · iexact HR
      iexact HL
    isplitl [HO Hcb Hbar T0 T1 T2 L0 L1 L2]
    · isplitl [HO]; · iexact HO
      isplitl [Hcb]; · iexact Hcb
      isplitl [Hbar]; · iexact Hbar
      isplitl [T0 L0]
      · isplitl [T0] <;> iassumption
      isplitl [T1 L1]
      · isplitl [T1] <;> iassumption
      · isplitl [T2] <;> iassumption
    isplitl [Htok]; · iexact Htok
    isplitl [Hget]; · iexact Hget
    isplitl [P0 P1 P2 U0 W0 U1 W1 U2 W2]
    · icases P0 with ⟨A0, B0, S0, C0, D0⟩
      icases P1 with ⟨A1, B1, S1, C1, D1⟩
      icases P2 with ⟨A2, B2, S2, C2, D2⟩
      isplitl [A0 B0 S0 C0 D0 U0 W0]
      · isplitl [A0]; · iexact A0
        isplitl [B0]; · iexact B0
        isplitl [S0]; · iexact S0
        isplitl [C0]; · iexact C0
        isplitl [D0]; · iexact D0
        isplitl [U0] <;> iassumption
      isplitl [A1 B1 S1 C1 D1 U1 W1]
      · isplitl [A1]; · iexact A1
        isplitl [B1]; · iexact B1
        isplitl [S1]; · iexact S1
        isplitl [C1]; · iexact C1
        isplitl [D1]; · iexact D1
        isplitl [U1] <;> iassumption
      · isplitl [A2]; · iexact A2
        isplitl [B2]; · iexact B2
        isplitl [S2]; · iexact S2
        isplitl [C2]; · iexact C2
        isplitl [D2]; · iexact D2
        isplitl [U2] <;> iassumption
    isplitl [Hx]; · iexact Hx
    isplitl [O0] <;> iassumption
  · iintro H
    iapply (body_end m ρ K c)
    isplitr; · iexact HR
    iexact H

/-- What the pipeline states of its windows before the body. -/
def found (c : Dev nD) : sProp 𝕄 :=
  iprop((∃ d, held (Memref.whole cc0_stg0_0 : Memref sig .tc .vmem S256x256 .bf16).view c fullShare ((dats m ρ 0 c).before (0 : Fin 8) t0_0 d))
    ∗ (∃ d, held (mU 0).view c fullShare ((dats m ρ 0 c).before (1 : Fin 8) t0_0 d))
    ∗ (∃ d, held (mW 0).view c fullShare ((dats m ρ 0 c).before (2 : Fin 8) t0_0 d))
    ∗ (∃ d, held (mU 1).view c fullShare ((dats m ρ 0 c).before (3 : Fin 8) t0_0 d))
    ∗ (∃ d, held (mW 1).view c fullShare ((dats m ρ 0 c).before (4 : Fin 8) t0_0 d))
    ∗ (∃ d, held (mU 2).view c fullShare ((dats m ρ 0 c).before (5 : Fin 8) t0_0 d))
    ∗ (∃ d, held (mW 2).view c fullShare ((dats m ρ 0 c).before (6 : Fin 8) t0_0 d))
    ∗ (∃ d, held oM.view c fullShare ((dats m ρ 0 c).before (7 : Fin 8) t0_0 d)))

/-- An input staged is at its block. -/
theorem found_one {s : Shape} {e : EltTy} {D : Type} (V : View sig .tc .vmem s e) (c : Dev nD) (f : D → Vec F s e) (v : Vec F s e) (h : ∀ d, f d = v) :
    iprop(∃ d, held V c fullShare (f d)) ⊢ (held V c fullShare v : sProp 𝕄) := by
  iintro ⟨%d, H⟩
  rw [h d]
  iexact H
theorem found_room {s : Shape} {e : EltTy} {D : Type} (V : View sig .tc .vmem s e) (c : Dev nD) (f : D → Vec F s e) :
    iprop(∃ d, held V c fullShare (f d)) ⊢ (room V c : sProp 𝕄) := by
  iintro ⟨%d, H⟩
  iapply (held_room V c (f d))
  iexact H

theorem found_staged (c : Dev nD) : found m ρ c ⊢ staged m c (room oM.view c) := by
  unfold found staged
  exact BI.sep_mono (found_one _ c _ _ (before_0 m ρ c)) (BI.sep_mono (found_one _ c _ _ (before_1 m ρ c)) (BI.sep_mono (found_one _ c _ _ (before_2 m ρ c))
    (BI.sep_mono (found_one _ c _ _ (before_3 m ρ c)) (BI.sep_mono (found_one _ c _ _ (before_4 m ρ c)) (BI.sep_mono (found_one _ c _ _ (before_5 m ρ c))
    (BI.sep_mono (found_one _ c _ _ (before_6 m ρ c)) (found_room _ c _)))))))

/-- The windows one by one. -/
theorem windows_eq (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

set_option maxRecDepth 8000 in
/-- The body that the pipeline runs is the folded run. -/
theorem body_is (c : Dev nD) : (defs₀ (F := F) .tc cfg0.body (cfg0.bodyArgs t0_0 (cfg0.slots t0_0)) : Pg F PUnit)
    = run (F := F) (Memref.whole cc0_stg0_0) (mU 0) (mW 0) (mU 1) (mW 1) (mU 2) (mW 2) oM :=
  (show _ = cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _) cc0_scratch7 cc0_scratch8 from rfl).trans (body_eq ..)

set_option maxRecDepth 100000 in
set_option maxHeartbeats 1000000 in
/-- The pipeline's obligation on the body. -/
theorem body_obligation (c : Dev nD) : BodyObligation (dats (F := F) m ρ 0 c) (defs₀ (F := F)) 𝒱₀ () Set.univ := fun t => by
  rw [fin_N0 t, windows_eq, windows_eq, body_is c]
  show iprop(Φ₀ m c ∗ (dats m ρ 0 c).owesAt () t0_0.castSucc ∗ found m ρ c)
    ⊢ WP c (run (F := F) (Memref.whole cc0_stg0_0) (mU 0) (mW 0) (mU 1) (mW 1) (mU 2) (mW 2) oM) (fun _ => bodyPost m ρ c)
  exact (sep_mono_right (sep_mono_right (found_staged m ρ c))).trans (body_run m ρ c)

end Cert.KernelIdeal.Mlp

end
-- ==== Proof.Launch.lean ====
/-
  The launch: the cells of all devices are opened together, the tokens are dealt to whoever pays with them, and every run
  of the program ends, with every semaphore at zero and the arrays as the body says.
-/
module

public import proofs.«01_k».proof.Proof.Body
public import Idealize.ShloMosaic.Lib.Pipeline.CollectiveSegs

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the kernel -/

/-- The kernel's own semaphores: those of the transfers. -/
def osem (k : Bool × T) : SemLoc sig := csem (some k)

theorem osem_scoped : ∀ k : Bool × T, (osem k).isScoped .tc = true := by decide +kernel

/-- A semaphore of a place below 8 is the pipeline's, and no cell's. -/
theorem decode_low (q : DmaSem sig) (h : q.val < 8) : decode (.dma q) = none := if_pos h

theorem stage_low : ∀ (w : Fin cfg0.W) (s : Fin (cfg0.spec w).nbuf), ((cfg0.spec w).sem s).val < 8 := by decide

theorem ownSemFacts : Pipeline.OwnSemFacts cfg0.spec osem where
  isScoped := osem_scoped
  inj := fun _ _ h => Option.some.inj (csem_injective h)
  disj := by
    intro k w s h
    have h1 := congrArg decode h
    rw [show decode (osem k) = some (some k) from decode_csem (some k)] at h1
    rw [decode_low _ (stage_low w s)] at h1
    cases h1

theorem unscoped_eq (c : Dev nD) : (unscopedSems0 c : sProp 𝕄) = semVal (barCell c) 0 := by
  unfold unscopedSems0; rw [bigSep_eq_bigSepL_of_eq [SemLoc.reg barSem] (by decide) (by decide)]; rfl

/-- The transfers' semaphores and the meeting's are the device's cells. -/
theorem sems_eq (c : Dev nD) :
    iprop(Pipeline.ownSems0 (Ix := Unit) (Name := ℕ) (U := UU) (Lvl := ℕ) (Val := Elt F) (τ := τ) osem c ∗ unscopedSems0 c)
      = (bigSep Finset.univ fun k : Cl => semVal (kcell (c, k)) 0 : sProp 𝕄) := by
  rw [unscoped_eq, all_cells]; rfl

theorem share_eq (c : Dev nD) (w : Fin cfg0.W) : (dats m ρ 0 c).share w = fullShare := by unfold Dat.share; split <;> rfl

/-! ## Cells and tokens -/

def allCells : Finset (GSem nD τ sig) := Finset.univ.map ⟨kcell, kcell_injective⟩

/-- The duties of a device's cells: three on the meeting's, one on each transfer's. -/
abbrev tokOf (x : Dev nD × (Fin 3 ⊕ (Bool × T))) : GSem nD τ sig × ℕ × Fin 3 := match x.2 with
  | .inl d => (barCell x.1, 0, d)
  | .inr k => (kcell (x.1, some k), 0, 0)
theorem tokOf_injective : Function.Injective tokOf := by
  rintro ⟨c, d | k⟩ ⟨c', d' | k'⟩ h
  · have h1 : (c, (none : Cl)) = (c', none) := kcell_injective (congrArg Prod.fst h)
    have h2 : d = d' := congrArg (fun x : GSem nD τ sig × ℕ × Fin 3 => x.2.2) h
    cases h1; cases h2; rfl
  · have h1 : (c, (none : Cl)) = (c', some k') := kcell_injective (congrArg Prod.fst h)
    cases h1
  · have h1 : (c, some k) = (c', (none : Cl)) := kcell_injective (congrArg Prod.fst h)
    cases h1
  · have h1 : (c, some k) = (c', some k') := kcell_injective (congrArg Prod.fst h)
    cases h1; rfl
def allToks : Finset (GSem nD τ sig × ℕ × Fin 3) := Finset.univ.map ⟨tokOf, tokOf_injective⟩

/-- The ghost state at launch: the pipeline's rounds and the kernel's. -/
def u₀ : UU := (initOf (Pipeline.cells cfgs cellOf_inj) (Pipeline.launchToks cfgs cellOf_inj), initOf allCells allToks)

/-- The tokens of the duties of a device's own cells. -/
def toks (c : Dev nD) : sProp 𝕄 :=
  iprop((bigSep Finset.univ fun d : Fin 3 => dutyTok ER (barCell c) 0 d)
    ∗ (bigSep Finset.univ fun t : T => dutyTok ER (outCell c t) 0 0) ∗ bigSep Finset.univ fun t : T => dutyTok ER (inCell c t) 0 0)

/-- What the launch gives a device. -/
def G (c : Dev nD) : sProp 𝕄 :=
  iprop((bigSep Finset.univ fun k : Cl => roundState ER (sched m) (kcell (c, k)) 0)
    ∗ (bigSep Finset.univ fun k : Cl => iprop(atPos ER (kcell (c, k)) 0 ∅ 0 ∗ reached ER (kcell (c, k)) 0)) ∗ toks c)

/-- What it has of it once all cells are open. -/
def G' (c : Dev nD) : sProp 𝕄 := iprop(∃ K, records m K ∗ hand c)

theorem over_cells (Φ : GSem nD τ sig → sProp 𝕄) :
    bigSep allCells Φ = bigSep Finset.univ fun c : Dev nD => bigSep Finset.univ fun k : Cl => Φ (kcell (c, k)) := by
  unfold allCells; rw [bigSep_map, bigSep_univ_prod]; rfl
theorem over_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum, all_sides]; rfl

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat Hr]
  · isplitl [Hat] <;> iassumption
  iexact Htok

/-- A device's cells opened. -/
theorem open_cells (c : Dev nD) :
    iprop((bigSep Finset.univ fun k : Cl => semVal (kcell (c, k)) 0) ∗ bigSep Finset.univ fun k : Cl => roundState ER (sched m) (kcell (c, k)) 0)
      ⊢ (|={Set.univ}=> bigSep Finset.univ fun k : Cl => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem open_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hos] <;> iassumption
  imod (open_cells m c) $$ [Hv Hst] with Hinv
  · isplitl [Hv] <;> iassumption
  imodintro
  isplitl [Hinv]; · iexact Hinv
  isplitl [Hat]; · iexact Hat
  iexact Htok

/-- The tokens with which a device tells its peers that it has come, -/
def tells (c : Dev nD) : sProp 𝕄 :=
  iprop(dutyTok ER (barCell (aft c 0)) 0 (Fin.rev 0) ∗ dutyTok ER (barCell (aft c 1)) 0 (Fin.rev 1) ∗ dutyTok ER (barCell (aft c 2)) 0 (Fin.rev 2))
/-- and all those that it pays with. -/
def pays (c : Dev nD) : sProp 𝕄 :=
  iprop(tells c
    ∗ (bigSep Finset.univ fun t : T => dutyTok ER (outCell c t) 0 0) ∗ bigSep Finset.univ fun t : T => dutyTok ER (inCell (aft c t.2.2.1) t) 0 0)

/-- A token for each device may go to the device `j + 1` before it. -/
theorem around (j : Fin 3) (Φ : Dev nD → sProp 𝕄) : bigSep Finset.univ Φ = bigSep Finset.univ fun c => Φ (aft c j) :=
  bigSep_univ_equiv (turn j) Φ

theorem toks_around : (bigSep Finset.univ fun c : Dev nD => (toks c : sProp 𝕄)) ⊢ bigSep Finset.univ fun c : Dev nD => pays c := by
  have hin : (bigSep Finset.univ fun c : Dev nD => bigSep Finset.univ fun t : T => (dutyTok ER (inCell c t) 0 0 : sProp 𝕄))
      = bigSep Finset.univ fun c : Dev nD => bigSep Finset.univ fun t : T => dutyTok ER (inCell (aft c t.2.2.1) t) 0 0 := by
    rw [Pipeline.bigSep_univ_comm, Pipeline.bigSep_univ_comm (fun (c : Dev nD) (t : T) => (dutyTok ER (inCell (aft c t.2.2.1) t) 0 0 : sProp 𝕄))]
    exact bigSep_congr fun t _ => around t.2.2.1 fun c => dutyTok ER (inCell c t) 0 0
  have hbar : (bigSep Finset.univ fun c : Dev nD => bigSep Finset.univ fun d : Fin 3 => (dutyTok ER (barCell c) 0 d : sProp 𝕄))
      ⊢ bigSep Finset.univ fun c : Dev nD => tells c := by
    unfold tells
    rw [Pipeline.bigSep_univ_comm, bigSep_univ_eq_bigSepL [2, 1, 0] (by decide) (by decide)]
    show iprop((bigSep Finset.univ fun c : Dev nD => dutyTok ER (barCell c) 0 (2 : Fin 3)) ∗ (bigSep Finset.univ fun c : Dev nD => dutyTok ER (barCell c) 0 (1 : Fin 3))
      ∗ bigSep Finset.univ fun c : Dev nD => dutyTok ER (barCell c) 0 (0 : Fin 3)) ⊢ _
    rw [around 0 (fun c => dutyTok ER (barCell c) 0 (2 : Fin 3)), around 1 (fun c => dutyTok ER (barCell c) 0 (1 : Fin 3)),
      around 2 (fun c => dutyTok ER (barCell c) 0 (0 : Fin 3)), bigSep_sep', bigSep_sep']
    exact .rfl
  unfold toks pays
  rw [bigSep_sep', bigSep_sep', bigSep_sep', bigSep_sep', hin]
  exact sep_mono_left hbar

/-- Places and tokens are a device's hand. -/
theorem hand_intro (c : Dev nD) : iprop((bigSep Finset.univ fun k : Cl => atPos ER (kcell (c, k)) 0 ∅ 0) ∗ pays c) ⊢ (hand c : sProp 𝕄) := by
  have h (c : Dev nD) : (bigSep Finset.univ (tok c) : sProp 𝕄) = iprop((bigSep Finset.univ fun t : T => dutyTok ER (outCell c t) 0 0)
      ∗ (bigSep Finset.univ fun t : T => dutyTok ER (inCell (aft c t.2.2.1) t) 0 0) ∗ bigSep Finset.univ fun t : T => atPos ER (outCell c t) 0 ∅ 0) := by
    unfold tok; rw [bigSep_sep', bigSep_sep']
  unfold hand pays tells
  rw [all_cells, all_sides, h]
  iintro ⟨⟨⟨Hout, Hin⟩, Hbar⟩, Hb, Ho, Hi⟩
  isplitl [Hbar]; · iexact Hbar
  isplitl [Hb]; · iexact Hb
  isplitl [Ho Hi Hout]
  · isplitl [Ho]; · iexact Ho
    isplitl [Hi]; · iexact Hi
    iexact Hout
  iexact Hin

theorem G'_intro (K : Dev nD × Cl → ℕ) (c : Dev nD) :
    iprop(records m K ∗ (bigSep Finset.univ fun k : Cl => atPos ER (kcell (c, k)) 0 ∅ 0) ∗ pays c) ⊢ (G' m c : sProp 𝕄) := by
  unfold G'
  iintro ⟨HR, H⟩
  iexists K
  isplitl [HR]; · iexact HR
  iapply (hand_intro c); iexact H

theorem regroup :
    (bigSep Finset.univ fun c : Dev nD => iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cl => iprop(∃ κ : ℕ, cellInv ER (sched m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok⟩
  ihave HK := (BI.bigSep_exists_pi Finset.univ (fun (ck : Dev nD × Cl) (κ : ℕ) => (cellInv ER (sched m) κ (kcell ck) : sProp 𝕄))) $$ HI
  icases HK with ⟨%K, #HI⟩
  ihave Htk := (toks_around (F := F)) $$ Htok
  iapply (bigSep_using (R := records m K) fun c _ => G'_intro m K c)
  isplitr
  · unfold records; isplitl; · iexact HI
    iexact HR
  · iapply (Entails.of_eq (bigSep_sep' Finset.univ (fun c : Dev nD => bigSep Finset.univ fun k : Cl => (atPos ER (kcell (c, k)) 0 ∅ 0 : sProp 𝕄)) pays).symm)
    isplitl [Hat]; · iexact Hat
    iexact Htk

/-- All cells opened at once, and the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_device m c).trans (bigSep_fupd _ _)).trans (BI.fupd_mono (regroup m))

/-! ## The credit at launch -/

theorem bar_iff {a b : Dev nD} : barCell a = barCell b ↔ a = b :=
  ⟨fun h => congrArg Prod.fst (kcell_injective (a₁ := (a, none)) (a₂ := (b, none)) h), fun h => h ▸ rfl⟩
theorem in_iff {a b : Dev nD} {t t' : T} : inCell a t = inCell b t' ↔ a = b ∧ t = t' := by
  constructor
  · intro h
    have h' : (a, some (true, t)) = (b, some (true, t')) := kcell_injective (a₁ := (a, some (true, t))) (a₂ := (b, some (true, t'))) h
    cases h'; exact ⟨rfl, rfl⟩
  · rintro ⟨rfl, rfl⟩; rfl
theorem in_ne_bar {a b : Dev nD} {t : T} : inCell a t ≠ barCell b := fun h => by
  have h' : (a, some (true, t)) = (b, (none : Cl)) := kcell_injective (a₁ := (a, some (true, t))) (a₂ := (b, none)) h
  cases h'

/-- Among the four, the device `j + 1` before `c` is one. -/
theorem sum_around (j : Fin 3) (c : Dev nD) (n : ℕ) : (∑ d : Dev nD, if aft d j = c then n else 0) = n := by
  refine (Equiv.sum_comp (turn j) fun d : Dev nD => if d = c then n else 0).trans ?_
  rw [Finset.sum_ite_eq' Finset.univ c fun _ => n, if_pos (Finset.mem_univ _)]

theorem owedL_bar (d c : Dev nD) (l : List T) : owedL d l (barCell c) () = 0 := by
  by_contra h
  obtain ⟨t, -, e⟩ := owedL_pos (Nat.pos_of_ne_zero h)
  exact in_ne_bar e.symm

theorem owedL_in (d c : Dev nD) (t : T) (l : List T) (hl : l.Nodup) :
    owedL d l (inCell c t) () = if t ∈ l ∧ aft d t.2.2.1 = c then N else 0 := by
  induction l with
  | nil => rw [if_neg fun h => absurd h.1 List.not_mem_nil]; rfl
  | cons t' l ih =>
    obtain ⟨hn, hl'⟩ := List.nodup_cons.mp hl
    unfold owedL
    rw [Pi.add_apply, Finsupp.add_apply, tallyAt_apply, ih hl']
    by_cases ht : t = t'
    · subst ht
      rw [if_neg fun h => hn h.1, Nat.zero_add]
      by_cases hc : aft d t.2.2.1 = c
      · rw [if_pos ⟨by rw [hc], rfl⟩, if_pos ⟨List.mem_cons_self .., hc⟩]
      · rw [if_neg fun h => hc (in_iff.mp h.1).1.symm, if_neg fun h => hc h.2]
    · rw [if_neg (c := inCell c t = inCell (aft d t'.2.2.1) t' ∧ () = ()) fun h => ht (in_iff.mp h.1).2, Nat.add_zero]
      exact if_congr (by rw [List.mem_cons, or_iff_right ht]) rfl rfl

theorem owed_bar (d c : Dev nD) : O₀ d (barCell c) () = (if aft d 2 = c then 1 else 0) + (if aft d 1 = c then 1 else 0) + (if aft d 0 = c then 1 else 0) := by
  unfold O₀
  rw [Pi.add_apply, Finsupp.add_apply, Pi.add_apply, Finsupp.add_apply, Pi.add_apply, Finsupp.add_apply, tallyAt_apply, tallyAt_apply, tallyAt_apply, owedL_bar,
    Nat.zero_add]
  have h (j : Fin 3) : (if barCell c = barCell (aft d j) ∧ () = () then 1 else 0 : ℕ) = if aft d j = c then 1 else 0 :=
    if_congr ⟨fun h => (bar_iff.mp h.1).symm, fun h => ⟨by rw [h], rfl⟩⟩ rfl rfl
  rw [h, h, h]

theorem owed_in (d c : Dev nD) (t : T) : O₀ d (inCell c t) () = if aft d t.2.2.1 = c then N else 0 := by
  unfold O₀
  rw [Pi.add_apply, Finsupp.add_apply, Pi.add_apply, Finsupp.add_apply, Pi.add_apply, Finsupp.add_apply, tallyAt_apply, tallyAt_apply, tallyAt_apply,
    owedL_in d c t sends sends_nodup]
  have h (j : Fin 3) : (if inCell c t = barCell (aft d j) ∧ () = () then 1 else 0 : ℕ) = 0 := if_neg fun h => in_ne_bar h.1
  rw [h, h, h]
  exact if_congr ⟨fun h => h.2, fun h => ⟨List.mem_toFinset.mp (sends_all ▸ Finset.mem_univ t), h⟩⟩ rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_around, sum_around, sum_around]

theorem launch_in (c : Dev nD) (t : T) :
    tallyOn (inCell c t) (launchCredit (Pipeline.owing O₀) 0 (inCell c t)) = (tallyAt (inCell c t) () N : CellTallies nD τ sig Unit) := by
  unfold tallyAt; refine congrArg _ (Finsupp.ext fun u => ?_); cases u
  rw [Pipeline.launchCredit_owing, Finsupp.single_eq_same, Finset.sum_congr rfl fun d _ => owed_in d c t, sum_around]

/-- A landing's semaphore tells its transfer. -/
def inLoc : T ↪ SemLoc sig := ⟨fun t => csem (some (true, t)), fun _ _ h => (Prod.mk.inj (Option.some.inj (csem_injective h))).2⟩

theorem creds (c : Dev nD) :
    (Pipeline.launchCred O₀ c : sProp 𝕄)
      ⊢ iprop(cred (tallyAt (barCell c) () 3) ∗ bigSep Finset.univ fun t : T => cred (tallyAt (inCell c t) () N)) := by
  unfold Pipeline.launchCred
  rw [bigSep_univ_at _ (SemLoc.reg barSem), launch_bar]
  refine sep_mono_right ?_
  have e : (bigSep (Finset.univ.map inLoc) fun sm => (cred (tallyOn ((c.tc : Thread nD τ), sm) (launchCredit (Pipeline.owing O₀) 0 ((c.tc : Thread nD τ), sm))) : sProp 𝕄))
      = bigSep Finset.univ fun t : T => cred (tallyAt (inCell c t) () N) := by
    rw [bigSep_map]
    exact bigSep_congr fun t _ => congrArg cred (launch_in c t)
  rw [← e]
  refine bigSep_subset fun x hx => ?_
  obtain ⟨t, -, rfl⟩ := Finset.mem_map.mp hx
  exact Finset.mem_erase.mpr ⟨fun h => by injection h, Finset.mem_univ _⟩

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- A whole buffer at anything. -/
theorem room_whole {s : Shape} {e : EltTy} (V : View sig .tc .vmem s e) (hV : V.set = Finset.univ) (c : Dev nD) :
    room (F := F) V c = iprop(∃ f : Buf (Elt F) (V.loc (c : Thread nD τ)), V.loc (c : Thread nD τ) ↦{fullShare} f) := by
  unfold room; rw [hV]

theorem bufs_eq (c : Dev nD) : (Pipeline.scopedRest (Ix := Unit) (Name := ℕ) (U := UU) (Lvl := ℕ) (Val := Elt F) cfg0.spec c : sProp 𝕄) = bufs c := by
  unfold bufs
  rw [room_whole (XM 0).view (View.set_whole cc0_scratch0), room_whole (XM 1).view (View.set_whole cc0_scratch1), room_whole (XM 2).view (View.set_whole cc0_scratch2),
    room_whole RM.view (View.set_whole cc0_scratch3), room_whole SM.view (View.set_whole cc0_scratch4), room_whole UM.view (View.set_whole cc0_scratch5),
    room_whole DM.view (View.set_whole cc0_scratch6)]
  exact scopedRest0_eq c

theorem own_eq (c : Dev nD) : (Pipeline.ownSems0 (Ix := Unit) (Name := ℕ) (U := UU) (Lvl := ℕ) (Val := Elt F) (τ := τ) osem c : sProp 𝕄)
    = bigSep Finset.univ fun k : Bool × T => semVal (kcell (c, some k)) 0 := rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq, unscoped_eq, own_eq]
  unfold Φ₁
  iintro ⟨Hr, Hs, Hb⟩
  isplitl [Hb]; · iexact Hb
  isplitl [Hs]; · iexact Hs
  iexact Hr

/-- The pipeline's own semaphores are at level 0. -/
theorem lv_stage (c : Dev nD) (q : DmaSem sig) (h : q.val < 8) : lv ((c : Thread nD τ), .dma q) () = 0 := by
  unfold lv; rw [show decode ((c : Thread nD τ), SemLoc.dma q).2 = none from decode_low q h]

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> exact lv_stage c _ (by decide)) _ (by
      rcases t with ⟨_ | _, ht⟩
      · exact Or.inl rfl
      · exact Or.inr rfl)

/-- The arrays at the end. -/
def finalA (c : Dev nD) (w : Fin cfg0.W) : Buf (Elt F) ((cfg0.win w).arr.view.loc (c : Thread nD τ)) := (dats m ρ 0 c).arrAt w cfg0.N

/-- Every array is at the end what the body says. -/
def atEnd : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On four devices, for any float values, from any memory with the semaphores at zero: every weakly fair run ends, the
    arrays are then as the body says, and every semaphore is at zero. -/
theorem run_main : θ_run defs (onTc (τ := τ) (main (F := F))) (s₀ m ρ) (fun r => atEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mlp

end
-- ==== Proof.Ending.lean ====
/-
  What the run leaves in memory: the result array of each device holds `outv`, and the argument arrays are as they were.
-/
module

public import proofs.«01_k».proof.Proof.Launch

@[expose] public section

noncomputable section

namespace Cert.KernelIdeal.Mlp

open Cert.KernelIdeal Cert.KernelIdeal.Gen Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- Where an element of the result's block lies in the result: at the same place. -/
theorem outBlock_emb (y : S256x256.Idx) : ((cfg0.win (7 : Fin 8)).blk t0_0).view.emb y = y := by
  refine funext (all_two.mpr ⟨Fin.ext ?_, Fin.ext ?_⟩)
  · exact Pipeline.Window.rect_emb_val_of_index_zero (cfg0.win (7 : Fin 8)) t0_0 (0 : Fin 2) rfl y
  · exact Pipeline.Window.rect_emb_val_of_index_zero (cfg0.win (7 : Fin 8)) t0_0 (1 : Fin 2) rfl y

/-- The result array ends as the device's block of the result. -/
theorem final_out (c : Dev nD) : finalA m ρ c (7 : Fin 8) = outv m c := by
  refine (dats m ρ 0 c).arrAt_eq_of_cover (7 : Fin 8) (outv m c) (fun t _ => ?_) (fun i => ⟨t0_0, rfl, ?_⟩)
  · obtain rfl : t = t0_0 := Fin.ext (Nat.lt_one_iff.mp t.isLt)
    refine funext fun y => ?_
    show outv m c y = outv m c (((cfg0.win (7 : Fin 8)).blk t0_0).view.emb y)
    rw [outBlock_emb y]
  · have h := ((cfg0.win (7 : Fin 8)).blk t0_0).view.emb_mem_set i
    rw [outBlock_emb i] at h
    exact h

/-- The argument arrays end as they began. -/
theorem final_in (c : Dev nD) (w : Fin cfg0.W) (h : (cfg0.win w).isOut = false) : finalA m ρ c w = m ((cfg0.win w).arr.view.loc (c : Thread nD τ)) :=
  (dats m ρ 0 c).arrAt_in w h _

/-- The run with every array named: the result, the seven arguments, and the counters at zero. -/
theorem run_values : θ_run defs (onTc (τ := τ) (main (F := F))) ⟨m, fun _ => 0, ρ⟩ (fun r => (∀ c : Dev nD,
      r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c (7 : Fin 8)).trans (final_out m ρ c),
      (h.1 c (0 : Fin 8)).trans (final_in m ρ c 0 rfl), (h.1 c (1 : Fin 8)).trans (final_in m ρ c 1 rfl),
      (h.1 c (2 : Fin 8)).trans (final_in m ρ c 2 rfl), (h.1 c (3 : Fin 8)).trans (final_in m ρ c 3 rfl),
      (h.1 c (4 : Fin 8)).trans (final_in m ρ c 4 rfl), (h.1 c (5 : Fin 8)).trans (final_in m ρ c 5 rfl),
      (h.1 c (6 : Fin 8)).trans (final_in m ρ c 6 rfl)⟩, h.2⟩) (run_main m ρ)

end Cert.KernelIdeal.Mlp

end
-- ==== Proof.Layer.lean ====
/-
  One layer at the ideal values: the four parts that a device adds up are the layer of the reference program, at the
  device's rows. The devices hold the columns of the first weights and the rows of the second in blocks of 512; the sum
  over the 2048 inner places is the sum over the devices of the sums over their blocks.
-/
module

public import proofs.«01_k».proof.Proof.Ending
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.IdealHost

@[expose] public section

noncomputable section

namespace Cert.KernelIdeal.Mlp

open Cert.KernelIdeal Cert.KernelIdeal.Gen Idealize.ShloMosaic Idealize.ShloMosaic.ValueIdx
open Idealize.ShloMosaic.TcCoe

/-! ## The reference's layer -/

/-- A layer of the reference program. -/
def layer (Y : FVec Ideal Cert.ReferenceIdeal.S1024x256 .f32) (U : FVec Ideal Cert.ReferenceIdeal.S256x2048 .bf16)
    (W : FVec Ideal Cert.ReferenceIdeal.S2048x256 .bf16) : FVec Ideal Cert.ReferenceIdeal.S1024x256 .f32 :=
  Host.dotGeneral Cert.ReferenceIdeal.dot_S1024x2048_S2048x256_S1024x256_1_0_0_1_n_n none
    (maximumf
      (Host.dotGeneral Cert.ReferenceIdeal.dot_S1024x256_S256x2048_S1024x2048_1_0_0_1_n_n none Y (extf .f32 U Cert.ReferenceIdeal.Gen.facts.bitsLt_bf16_f32))
      (broadcastInDim Cert.ReferenceIdeal.S1024x2048 ![] Cert.ReferenceIdeal.Gen.facts.bcast_S_S1024x2048
        (constant Cert.ReferenceIdeal.S_ .f32 0x00000000#32)))
    (extf .f32 W Cert.ReferenceIdeal.Gen.facts.bitsLt_bf16_f32)

/-- It, entry by entry. -/
theorem layer_apply (Y : FVec Ideal Cert.ReferenceIdeal.S1024x256 .f32) (U : FVec Ideal Cert.ReferenceIdeal.S256x2048 .bf16)
    (W : FVec Ideal Cert.ReferenceIdeal.S2048x256 .bf16) (r : Fin 1024) (j : Fin 256) :
    layer Y U W (ix2 r j) = ∑ k : Fin 2048, max (∑ i : Fin 256, Y (ix2 r i) * U (ix2 i k)) 0 * W (ix2 k j) := by
  refine (StackMember.dotGeneral_plain_apply none _ _ r j).trans (Finset.sum_congr rfl fun k _ => ?_)
  refine congrArg (· * W (ix2 k j)) ((maximumf_apply _ _ _).trans ?_)
  refine congrArg₂ max (StackMember.dotGeneral_plain_apply none Y _ r k) ?_
  exact Ideal.ofBits_zero_f32

/-! ## The kernel's part -/

/-- The product that a device computes, entry by entry. -/
theorem mlp_apply (x : FVec Ideal S128x256 .bf16) (u : Vec Ideal S256x512 .bf16) (w : Vec Ideal S512x256 .bf16) (r : Fin 128) (j : Fin 256) :
    mlp x (k0_pay1 u) (k0_pay2 w) (ix2 r j) = ∑ k : Fin 512, max (∑ i : Fin 256, x (ix2 r i) * u (ix2 i k)) 0 * w (ix2 k j) := by
  unfold mlp k0_pay9 k0_pay1 k0_pay2
  simp only [shapeCast_shapeCast, shapeCast_self, matmul]
  refine (Ideal.matmul_plain_apply none _ _ _ r j).trans ?_
  refine (congrArg (· + _) Ideal.ofBits_zero_f32).trans ((zero_add _).trans (Finset.sum_congr rfl fun k _ => ?_))
  refine congrArg (· * w (ix2 k j)) ?_
  refine congrArg₂ max ((Ideal.matmul_plain_apply none _ _ _ r k).trans ?_) Ideal.ofBits_zero_f32
  exact (congrArg (· + _) Ideal.ofBits_zero_f32).trans (zero_add _)

/-- Adding a received part adds its entries. -/
theorem addIn_apply (p q : FVec Ideal S128x256 .f32) (i : S128x256.Idx) : addIn p (slot (trunc q)) i = p i + q i := by
  unfold addIn k0_pay24 slot
  simp only [shapeCast_shapeCast]
  rfl

/-! ## Rows and places -/

/-- The row of the whole array that is row `r` of half `h` of device `c`. -/
def row (c : Dev nD) (h : Fin 2) (r : Fin 128) : Fin 1024 := ⟨256 * c.val + 128 * h.val + r.val, by
  have := c.isLt; have := h.isLt; have := r.isLt; show _ < 1024; change c.val < 4 at *; omega⟩
/-- The inner place that is place `k` of device `d`. -/
def place (d : Dev nD) (k : Fin 512) : Fin 2048 := ⟨512 * d.val + k.val, by
  have := k.isLt; have : d.val < 4 := d.isLt; omega⟩

/-- A sum over the inner places, device by device. -/
theorem sum_place (f : Fin 2048 → EReal) : ∑ k, f k = ∑ d : Dev nD, ∑ k : Fin 512, f (place d k) := by
  refine (Fintype.sum_equiv (finProdFinEquiv (m := 4) (n := 512)) (fun x => f (place x.1 x.2)) f fun x => congrArg f (Fin.ext ?_)).symm.trans
    (Fintype.sum_prod_type _)
  show 512 * x.1.val + x.2.val = x.2.val + 512 * x.1.val
  exact Nat.add_comm _ _

/-- The order in which a device adds the four parts does not matter. -/
theorem sum_four (f : Dev nD → EReal) : ∀ c : Dev nD, f c + f (bef c 2) + f (bef c 0) + f (bef c 1) = ∑ d, f d
  | 0 => by rw [show ∑ d, f d = _ from Fin.sum_univ_four f]; show f 0 + f 1 + f 3 + f 2 = f 0 + f 1 + f 2 + f 3; ac_rfl
  | 1 => by rw [show ∑ d, f d = _ from Fin.sum_univ_four f]; show f 1 + f 2 + f 0 + f 3 = f 0 + f 1 + f 2 + f 3; ac_rfl
  | 2 => by rw [show ∑ d, f d = _ from Fin.sum_univ_four f]; show f 2 + f 3 + f 1 + f 0 = f 0 + f 1 + f 2 + f 3; ac_rfl
  | 3 => by rw [show ∑ d, f d = _ from Fin.sum_univ_four f]; show f 3 + f 0 + f 2 + f 1 = f 0 + f 1 + f 2 + f 3; ac_rfl

/-! ## A layer on the devices -/

/-- The devices' rows are the rows of `Y`. -/
def RowsOf (X : Dev nD → Fin 2 → FVec Ideal S128x256 .bf16) (Y : FVec Ideal Cert.ReferenceIdeal.S1024x256 .f32) : Prop :=
  ∀ c h (r : Fin 128) (j : Fin 256), X c h (ix2 r j) = Y (ix2 (row c h r) j)

variable (m : (ℓ : Loc nD τ sig) → Buf (Elt Ideal) ℓ)

/-- The devices' weights of layer `l` are the blocks of `U` and `W`. -/
structure WeightsOf (l : Fin 3) (U : FVec Ideal Cert.ReferenceIdeal.S256x2048 .bf16) (W : FVec Ideal Cert.ReferenceIdeal.S2048x256 .bf16) : Prop where
  first : ∀ d (i : Fin 256) (k : Fin 512), uin m d l (ix2 i k) = U (ix2 i (place d k))
  second : ∀ d (k : Fin 512) (j : Fin 256), win m d l (ix2 k j) = W (ix2 (place d k) j)

/-- The sum that a device makes in a layer is the reference's layer at its rows. -/
theorem sumOf_layer {l : Fin 3} {X : Dev nD → Fin 2 → FVec Ideal S128x256 .bf16} {Y : FVec Ideal Cert.ReferenceIdeal.S1024x256 .f32}
    {U : FVec Ideal Cert.ReferenceIdeal.S256x2048 .bf16} {W : FVec Ideal Cert.ReferenceIdeal.S2048x256 .bf16}
    (hX : RowsOf X Y) (hl : WeightsOf m l U W) (c : Dev nD) (h : Fin 2) (r : Fin 128) (j : Fin 256) :
    sumOf m l X c h (ix2 r j) = layer Y U W (ix2 (row c h r) j) := by
  have part : ∀ d, partOf m l X c d h (ix2 r j)
      = ∑ k : Fin 512, max (∑ i : Fin 256, Y (ix2 (row c h r) i) * U (ix2 i (place d k))) 0 * W (ix2 (place d k) j) := fun d => by
    refine (mlp_apply (X c h) (uin m d l) (win m d l) r j).trans (Finset.sum_congr rfl fun k _ => ?_)
    rw [hl.second d k j]
    refine congrArg (fun z => max z 0 * _) (Finset.sum_congr rfl fun i _ => ?_)
    rw [hX c h r i, hl.first d i k]
  rw [layer_apply, sum_place, ← sum_four _ c]
  unfold sumOf
  rw [addIn_apply, addIn_apply, addIn_apply, part, part, part, part]

/-- So the rows that leave a layer are the reference's: a change of format changes no ideal value. -/
theorem rowsOf_layer {l : Fin 3} {X : Dev nD → Fin 2 → FVec Ideal S128x256 .bf16} {Y : FVec Ideal Cert.ReferenceIdeal.S1024x256 .f32}
    {U : FVec Ideal Cert.ReferenceIdeal.S256x2048 .bf16} {W : FVec Ideal Cert.ReferenceIdeal.S2048x256 .bf16}
    (hX : RowsOf X Y) (hl : WeightsOf m l U W) : RowsOf (fun c h => trunc (sumOf m l X c h)) (layer Y U W) :=
  fun c h r j => sumOf_layer m hX hl c h r j

/-- Three layers. -/
theorem tot_layers {Y : FVec Ideal Cert.ReferenceIdeal.S1024x256 .f32}
    {U0 U1 U2 : FVec Ideal Cert.ReferenceIdeal.S256x2048 .bf16} {W0 W1 W2 : FVec Ideal Cert.ReferenceIdeal.S2048x256 .bf16}
    (hX : RowsOf (xrow m) Y) (h0 : WeightsOf m 0 U0 W0) (h1 : WeightsOf m 1 U1 W1) (h2 : WeightsOf m 2 U2 W2)
    (c : Dev nD) (h : Fin 2) (r : Fin 128) (j : Fin 256) :
    tot m 2 c h (ix2 r j) = layer (layer (layer Y U0 W0) U1 W1) U2 W2 (ix2 (row c h r) j) :=
  sumOf_layer m (rowsOf_layer m (rowsOf_layer m hX h0) h1) h2 c h r j

end Cert.KernelIdeal.Mlp

end
-- ==== Proof.Equation.lean ====
/-
  The devices' results are the blocks of the reference's result, when their arguments are the blocks of its arguments.
-/
module

public import proofs.«01_k».proof.Proof.Layer
public import Idealize.ShloMosaic.Lib.Layout

@[expose] public section

set_option maxRecDepth 16384

noncomputable section

namespace Cert.KernelIdeal.Mlp

open Cert.KernelIdeal Cert.KernelIdeal.Gen Idealize.ShloMosaic Idealize.ShloMosaic.ValueIdx
open Idealize.ShloMosaic.TcCoe

/-- Two places of a matrix with the same coordinates are the same. -/
theorem idx_ext {n0 n1 : ℕ} {i j : (⟨2, ![n0, n1]⟩ : Shape).Idx} (h : ∀ a, (i a).val = (j a).val) : i = j := funext fun a => Fin.ext (h a)

section Staged
variable {F : FTy → Type} [FloatOps F]
variable (m : (ℓ : Loc nD τ sig) → Buf (Elt F) ℓ) (c : Dev nD)

/-! ## What is staged is the argument -/

theorem xin_eq : xin m c = m ((c : Thread nD τ).loc main_arg0) := funext fun y =>
  congrArg (m ((c : Thread nD τ).loc main_arg0)) (idx_ext fun a => Pipeline.Window.rect_emb_val_of_index_zero (cfg0.win (0 : Fin 8)) t0_0 a ((all_two.mpr ⟨rfl, rfl⟩ : ∀ a : Fin 2, (cfg0.win (0 : Fin 8)).index t0_0 a = 0) a) y)
theorem uin0_eq : uin m c 0 = m ((c : Thread nD τ).loc main_arg1) := funext fun y =>
  congrArg (m ((c : Thread nD τ).loc main_arg1)) (idx_ext fun a => Pipeline.Window.rect_emb_val_of_index_zero (cfg0.win (1 : Fin 8)) t0_0 a ((all_two.mpr ⟨rfl, rfl⟩ : ∀ a : Fin 2, (cfg0.win (1 : Fin 8)).index t0_0 a = 0) a) y)
theorem win0_eq : win m c 0 = m ((c : Thread nD τ).loc main_arg2) := funext fun y =>
  congrArg (m ((c : Thread nD τ).loc main_arg2)) (idx_ext fun a => Pipeline.Window.rect_emb_val_of_index_zero (cfg0.win (2 : Fin 8)) t0_0 a ((all_two.mpr ⟨rfl, rfl⟩ : ∀ a : Fin 2, (cfg0.win (2 : Fin 8)).index t0_0 a = 0) a) y)
theorem uin1_eq : uin m c 1 = m ((c : Thread nD τ).loc main_arg3) := funext fun y =>
  congrArg (m ((c : Thread nD τ).loc main_arg3)) (idx_ext fun a => Pipeline.Window.rect_emb_val_of_index_zero (cfg0.win (3 : Fin 8)) t0_0 a ((all_two.mpr ⟨rfl, rfl⟩ : ∀ a : Fin 2, (cfg0.win (3 : Fin 8)).index t0_0 a = 0) a) y)
theorem win1_eq : win m c 1 = m ((c : Thread nD τ).loc main_arg4) := funext fun y =>
  congrArg (m ((c : Thread nD τ).loc main_arg4)) (idx_ext fun a => Pipeline.Window.rect_emb_val_of_index_zero (cfg0.win (4 : Fin 8)) t0_0 a ((all_two.mpr ⟨rfl, rfl⟩ : ∀ a : Fin 2, (cfg0.win (4 : Fin 8)).index t0_0 a = 0) a) y)
theorem uin2_eq : uin m c 2 = m ((c : Thread nD τ).loc main_arg5) := funext fun y =>
  congrArg (m ((c : Thread nD τ).loc main_arg5)) (idx_ext fun a => Pipeline.Window.rect_emb_val_of_index_zero (cfg0.win (5 : Fin 8)) t0_0 a ((all_two.mpr ⟨rfl, rfl⟩ : ∀ a : Fin 2, (cfg0.win (5 : Fin 8)).index t0_0 a = 0) a) y)
theorem win2_eq : win m c 2 = m ((c : Thread nD τ).loc main_arg6) := funext fun y =>
  congrArg (m ((c : Thread nD τ).loc main_arg6)) (idx_ext fun a => Pipeline.Window.rect_emb_val_of_index_zero (cfg0.win (6 : Fin 8)) t0_0 a ((all_two.mpr ⟨rfl, rfl⟩ : ∀ a : Fin 2, (cfg0.win (6 : Fin 8)).index t0_0 a = 0) a) y)

/-- A half of the rows, entry by entry. -/
theorem xrow_apply (h : Fin 2) (i : S128x256.Idx) : xrow m c h i = xin m c ((rH h).idx i) := rfl

end Staged

/-! ## Blocks -/

/-- A block of the columns of a first weight, entry by entry. -/
theorem block_cols (U : (⟨2, ![256, 2048]⟩ : Shape).Idx → EReal) (d : Dev nD) (i : Fin 256) (k : Fin 512) :
    Layout.block ⟨2, ![256, 512]⟩ ⟨2, ![256, 2048]⟩ 1 4 d U (by decide) (ix2 i k) = U (ix2 i (place d k)) :=
  congrArg U (idx_ext (all_two.mpr ⟨rfl, by show d.val * 512 + k.val = 512 * d.val + k.val; omega⟩))

/-- A block of the rows of a second weight. -/
theorem block_rows (W : (⟨2, ![2048, 256]⟩ : Shape).Idx → EReal) (d : Dev nD) (k : Fin 512) (j : Fin 256) :
    Layout.block ⟨2, ![512, 256]⟩ ⟨2, ![2048, 256]⟩ 0 4 d W (by decide) (ix2 k j) = W (ix2 (place d k) j) :=
  congrArg W (idx_ext (all_two.mpr ⟨by show d.val * 512 + k.val = 512 * d.val + k.val; omega, rfl⟩))

/-- A block of the rows of the input, or of the result, at a row of one of its halves. -/
theorem block_half (Y : (⟨2, ![1024, 256]⟩ : Shape).Idx → EReal) (c : Dev nD) (h : Fin 2) (r : Fin 128) (j : Fin 256) :
    Layout.block ⟨2, ![256, 256]⟩ ⟨2, ![1024, 256]⟩ 0 4 c Y (by decide) ((rH h).idx (ix2 r j)) = Y (ix2 (row c h r) j) :=
  congrArg Y (idx_ext (all_two.mpr ⟨by show c.val * 256 + (128 * h.val + 1 * r.val) = 256 * c.val + 128 * h.val + r.val; omega,
    by show 0 + 1 * j.val = j.val; omega⟩))

/-! ## The equation -/

variable (m : (ℓ : Loc nD τ sig) → Buf (Elt Ideal) ℓ)

/-- Each device's result is its block of the reference's. -/
theorem outv_block {X : FVec Ideal Cert.ReferenceIdeal.S1024x256 .bf16}
    {U0 U1 U2 : FVec Ideal Cert.ReferenceIdeal.S256x2048 .bf16} {W0 W1 W2 : FVec Ideal Cert.ReferenceIdeal.S2048x256 .bf16}
    (hX : ∀ c : Dev nD, m ((c : Thread nD τ).loc main_arg0) = Layout.block ⟨2, ![256, 256]⟩ ⟨2, ![1024, 256]⟩ 0 4 c X)
    (hU0 : ∀ c : Dev nD, m ((c : Thread nD τ).loc main_arg1) = Layout.block ⟨2, ![256, 512]⟩ ⟨2, ![256, 2048]⟩ 1 4 c U0)
    (hW0 : ∀ c : Dev nD, m ((c : Thread nD τ).loc main_arg2) = Layout.block ⟨2, ![512, 256]⟩ ⟨2, ![2048, 256]⟩ 0 4 c W0)
    (hU1 : ∀ c : Dev nD, m ((c : Thread nD τ).loc main_arg3) = Layout.block ⟨2, ![256, 512]⟩ ⟨2, ![256, 2048]⟩ 1 4 c U1)
    (hW1 : ∀ c : Dev nD, m ((c : Thread nD τ).loc main_arg4) = Layout.block ⟨2, ![512, 256]⟩ ⟨2, ![2048, 256]⟩ 0 4 c W1)
    (hU2 : ∀ c : Dev nD, m ((c : Thread nD τ).loc main_arg5) = Layout.block ⟨2, ![256, 512]⟩ ⟨2, ![256, 2048]⟩ 1 4 c U2)
    (hW2 : ∀ c : Dev nD, m ((c : Thread nD τ).loc main_arg6) = Layout.block ⟨2, ![512, 256]⟩ ⟨2, ![2048, 256]⟩ 0 4 c W2)
    (c : Dev nD) :
    outv m c = Layout.block ⟨2, ![256, 256]⟩ ⟨2, ![1024, 256]⟩ 0 4 c
      (layer (layer (layer (extf .f32 X Cert.ReferenceIdeal.Gen.facts.bitsLt_bf16_f32) U0 W0) U1 W1) U2 W2) := by
  have rows : RowsOf (xrow m) (extf .f32 X Cert.ReferenceIdeal.Gen.facts.bitsLt_bf16_f32) := fun c h r j =>
    (xrow_apply m c h (ix2 r j)).trans ((congrFun ((xin_eq m c).trans (hX c)) _).trans (block_half X c h r j))
  have w0 : WeightsOf m 0 U0 W0 := ⟨fun d i k => (congrFun ((uin0_eq m d).trans (hU0 d)) _).trans (block_cols U0 d i k),
    fun d k j => (congrFun ((win0_eq m d).trans (hW0 d)) _).trans (block_rows W0 d k j)⟩
  have w1 : WeightsOf m 1 U1 W1 := ⟨fun d i k => (congrFun ((uin1_eq m d).trans (hU1 d)) _).trans (block_cols U1 d i k),
    fun d k j => (congrFun ((win1_eq m d).trans (hW1 d)) _).trans (block_rows W1 d k j)⟩
  have w2 : WeightsOf m 2 U2 W2 := ⟨fun d i k => (congrFun ((uin2_eq m d).trans (hU2 d)) _).trans (block_cols U2 d i k),
    fun d k j => (congrFun ((win2_eq m d).trans (hW2 d)) _).trans (block_rows W2 d k j)⟩
  funext i
  have e : inHalf i = ix2 ⟨(i 0).val % 128, Nat.mod_lt _ (by decide)⟩ (i 1) := eq_ix2 (inHalf i)
  have b := block_half (layer (layer (layer (extf .f32 X Cert.ReferenceIdeal.Gen.facts.bitsLt_bf16_f32) U0 W0) U1 W1) U2 W2) c (whichH i)
    ⟨(i 0).val % 128, Nat.mod_lt _ (by decide)⟩ (i 1)
  have back : (rH (whichH i)).idx (ix2 ⟨(i 0).val % 128, Nat.mod_lt _ (by decide)⟩ (i 1)) = i :=
    (congrArg (rH (whichH i)).idx e.symm).trans (rH_idx i)
  exact ((congrArg (tot m 2 c (whichH i)) e).trans (tot_layers m rows w0 w1 w2 c (whichH i) _ _)).trans
    (b.symm.trans (congrArg _ back))

end Cert.KernelIdeal.Mlp

end
-- ==== Proof.lean ====
/-
  The claims. The run is proved once, for any float values (Proof/Launch.lean): the frames of the kernel as printed and of
  its idealization are that run with the values dropped, and the value claim is that run with each device's result shown
  to be its block of the reference's (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equation
public import Idealize.ShloMosaic.Lib.Claim

@[expose] public section

set_option maxRecDepth 100000

noncomputable section

namespace Cert.Proof

open Idealize.ShloMosaic Idealize.SL.Sem Cert.KernelIdeal.Mlp

/-- The kernel as printed and its idealization have the same text, so the same bodies, -/
theorem same_bodies : @Eq (Defs Cert.KernelIdeal.nD Cert.KernelIdeal.τ Cert.KernelIdeal.sig (Elt Bits) Cert.KernelIdeal.Λ₀)
    (@Cert.Kernel.defs₀ Bits _ Cert.Kernel.Gen.facts) (@Cert.KernelIdeal.defs₀ Bits _ Cert.KernelIdeal.Gen.facts) :=
  congrArg Defs.onTc (funext fun l => funext fun a => match l, a with | ⟨0, _⟩, _ => rfl)

/-- and the same table with the pipeline's own labels. -/
theorem same_table : @Cert.Kernel.defs Bits _ Cert.Kernel.Gen.facts = @Cert.KernelIdeal.defs Bits _ Cert.KernelIdeal.Gen.facts :=
  congrArg (Pipeline.defs Cert.KernelIdeal.pcfgs) same_bodies

/-- The kernel as printed runs, leaves its arguments as they were and every counter at zero. -/
theorem frame_kernel : Cert.quiescent_Kernel (hKernel := Cert.Kernel.Gen.facts) := by
  intro m g _
  have h := (θ_run (@Cert.KernelIdeal.defs Bits _ Cert.KernelIdeal.Gen.facts) _ _).mono
    (fun _ h => And.intro (fun c => (h.1 c).2) h.2) (run_values (F := Bits) m g)
  rw [← same_table] at h
  exact h

/-- So does its idealization. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (run_values (F := Ideal) m g)

/-- So does the reference. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The kernel computes the reference: each device ends with its block of the rows of the reference's result. -/
theorem same : Cert.algebraic_KernelIdeal_ReferenceIdeal (hKernelIdeal := Cert.KernelIdeal.Gen.facts)
    (hReferenceIdeal := Cert.ReferenceIdeal.Gen.facts) := fun m g m' g' _ agree =>
  ⟨_, (θ_run Cert.KernelIdeal.defs _ _).mono
      (fun _ h c => ⟨((h.1 c).1).trans (outv_block m (fun c => (agree c).1) (fun c => (agree c).2.1) (fun c => (agree c).2.2.1)
        (fun c => (agree c).2.2.2.1) (fun c => (agree c).2.2.2.2.1) (fun c => (agree c).2.2.2.2.2.1) (fun c => (agree c).2.2.2.2.2.2) c), (h.1 c).2⟩)
      (run_values (F := Ideal) m g),
    (θ_run Cert.ReferenceIdeal.defs _ _).mono (fun _ h => h 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  frame_kernel, frame_kernelIdeal, frame_reference, trivial, same⟩

end Cert.Proof

end
